-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 2048]⟩ ⟨2, ![8192, 8192]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = Layout.block ⟨2, ![2048, 4096]⟩ ⟨2, ![8192, 4096]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x2048 : Shape := ⟨2, ![8192, 2048]⟩
abbrev S8192x4096 : Shape := ⟨2, ![8192, 4096]⟩
abbrev S1024x2048 : Shape := ⟨2, ![1024, 2048]⟩
abbrev S2048x4096 : Shape := ⟨2, ![2048, 4096]⟩
abbrev S2048x8192 : Shape := ⟨2, ![2048, 8192]⟩
abbrev S2x2048x256 : Shape := ⟨3, ![2, 2048, 256]⟩
abbrev S2x256x4096 : Shape := ⟨3, ![2, 256, 4096]⟩
abbrev S2 : Shape := ⟨1, ![2]⟩
abbrev S3x8 : Shape := ⟨2, ![3, 8]⟩
abbrev S_ : Shape := ⟨0, ![]⟩
abbrev S1x1 : Shape := ⟨2, ![1, 1]⟩
abbrev S2048x256 : Shape := ⟨2, ![2048, 256]⟩
abbrev S1 : Shape := ⟨1, ![1]⟩
abbrev S1x256x4096 : Shape := ⟨3, ![1, 256, 4096]⟩
abbrev S256x4096 : Shape := ⟨2, ![256, 4096]⟩
abbrev S1x2048x256 : Shape := ⟨3, ![1, 2048, 256]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S8192x2048, .bf16⟩
  | .hbm, ⟨3, _⟩ => ⟨S2048x4096, .f32⟩
  | .hbm, ⟨4, _⟩ => ⟨S2048x8192, .bf16⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S2048x4096, .f32⟩
  | .local _ .vmem, ⟨5, _⟩ => ⟨S2x2048x256, .bf16⟩
  | .local _ .vmem, ⟨6, _⟩ => ⟨S2x256x4096, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  (ofTc nBuf bufTy 1 56 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2_0 : Ref sig .tc := ⟨.hbm, 3, rfl⟩
abbrev main_v2_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_scratch0 : Ref sig .tc := ⟨.vmem, 4, rfl⟩
abbrev cc1_scratch1 : Ref sig .tc := ⟨.vmem, 5, rfl⟩
abbrev cc1_scratch2 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev barrier0 : Sem sig := 0

abbrev nD : Nat := 4
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := .none

def k1_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k1_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k1_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k1_off1 (d0 : Dev nD) (c0_i32_16 : BitVec 32) : Fin 2 → Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_15 : BitVec 32 := 2048#32
  let v19 : BitVec 32 := Scalar.muli v2 c2048_i32_15
  let v20 : BitVec 32 := Scalar.addi v19 c0_i32_16
  ![0, v20.toNat]
def k1_off2 (d0 : Dev nD) (c1_i32_13 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v16 : BitVec 32 := Scalar.addi v2 c1_i32_13
  let c4_i32_14 : BitVec 32 := 4#32
  let v17 : BitVec 32 := Scalar.remsi v16 c4_i32_14
  let c2048_i32 : BitVec 32 := 2048#32
  let v18 : BitVec 32 := Scalar.muli v17 c2048_i32
  let c0_i32_24 : BitVec 32 := 0#32
  ![v18.toNat, 0]
def k1_dev4 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v16 : BitVec 32 := Scalar.addi v2 c1_i32_13
  let c4_i32_14 : BitVec 32 := 4#32
  let v17 : BitVec 32 := Scalar.remsi v16 c4_i32_14
  let c1_i32_21 : BitVec 32 := 1#32
  let v21 : BitVec 32 := Scalar.muli v17 c1_i32_21
  let v22 : BitVec 32 := Scalar.addi c0_i32_22 v21
  v22.toNat
def k1_dev5 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_25 : BitVec 32 := 3#32
  let v29 : BitVec 32 := Scalar.addi v2 c3_i32_25
  let c4_i32_26 : BitVec 32 := 4#32
  let v30 : BitVec 32 := Scalar.remsi v29 c4_i32_26
  let c1_i32_34 : BitVec 32 := 1#32
  let v34 : BitVec 32 := Scalar.muli v30 c1_i32_34
  let v35 : BitVec 32 := Scalar.addi c0_i32_35 v34
  v35.toNat
def k1_dev6 (d0 : Dev nD) : Nat :=
  let c0_i32_48 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_38 : BitVec 32 := 2#32
  let v42 : BitVec 32 := Scalar.addi v2 c2_i32_38
  let c4_i32_39 : BitVec 32 := 4#32
  let v43 : BitVec 32 := Scalar.remsi v42 c4_i32_39
  let c1_i32_47 : BitVec 32 := 1#32
  let v47 : BitVec 32 := Scalar.muli v43 c1_i32_47
  let v48 : BitVec 32 := Scalar.addi c0_i32_48 v47
  v48.toNat
def k1_off3 (d0 : Dev nD) (c1_i32_51 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v55 : BitVec 32 := Scalar.addi v2 c1_i32_51
  let c4_i32_52 : BitVec 32 := 4#32
  let v56 : BitVec 32 := Scalar.remsi v55 c4_i32_52
  let c2048_i32_53 : BitVec 32 := 2048#32
  let v57 : BitVec 32 := Scalar.muli v56 c2048_i32_53
  let c256_i32_62 : BitVec 32 := 256#32
  ![v57.toNat, 256]
def k1_dev7 (d0 : Dev nD) : Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_51 : BitVec 32 := 1#32
  let v55 : BitVec 32 := Scalar.addi v2 c1_i32_51
  let c4_i32_52 : BitVec 32 := 4#32
  let v56 : BitVec 32 := Scalar.remsi v55 c4_i32_52
  let c1_i32_59 : BitVec 32 := 1#32
  let v60 : BitVec 32 := Scalar.muli v56 c1_i32_59
  let v61 : BitVec 32 := Scalar.addi c0_i32_60 v60
  v61.toNat
def k1_dev8 (d0 : Dev nD) : Nat :=
  let c0_i32_73 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_63 : BitVec 32 := 3#32
  let v68 : BitVec 32 := Scalar.addi v2 c3_i32_63
  let c4_i32_64 : BitVec 32 := 4#32
  let v69 : BitVec 32 := Scalar.remsi v68 c4_i32_64
  let c1_i32_72 : BitVec 32 := 1#32
  let v73 : BitVec 32 := Scalar.muli v69 c1_i32_72
  let v74 : BitVec 32 := Scalar.addi c0_i32_73 v73
  v74.toNat
def k1_dev9 (d0 : Dev nD) : Nat :=
  let c0_i32_86 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_76 : BitVec 32 := 2#32
  let v81 : BitVec 32 := Scalar.addi v2 c2_i32_76
  let c4_i32_77 : BitVec 32 := 4#32
  let v82 : BitVec 32 := Scalar.remsi v81 c4_i32_77
  let c1_i32_85 : BitVec 32 := 1#32
  let v86 : BitVec 32 := Scalar.muli v82 c1_i32_85
  let v87 : BitVec 32 := Scalar.addi c0_i32_86 v86
  v87.toNat
def k1_off4 (d0 : Dev nD) (c1_i32_89 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v94 : BitVec 32 := Scalar.addi v2 c1_i32_89
  let c4_i32_90 : BitVec 32 := 4#32
  let v95 : BitVec 32 := Scalar.remsi v94 c4_i32_90
  let c2048_i32_91 : BitVec 32 := 2048#32
  let v96 : BitVec 32 := Scalar.muli v95 c2048_i32_91
  let c512_i32_100 : BitVec 32 := 512#32
  ![v96.toNat, 512]
def k1_dev10 (d0 : Dev nD) : Nat :=
  let c0_i32_98 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_89 : BitVec 32 := 1#32
  let v94 : BitVec 32 := Scalar.addi v2 c1_i32_89
  let c4_i32_90 : BitVec 32 := 4#32
  let v95 : BitVec 32 := Scalar.remsi v94 c4_i32_90
  let c1_i32_97 : BitVec 32 := 1#32
  let v99 : BitVec 32 := Scalar.muli v95 c1_i32_97
  let v100 : BitVec 32 := Scalar.addi c0_i32_98 v99
  v100.toNat
def k1_dev11 (d0 : Dev nD) : Nat :=
  let c0_i32_111 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_101 : BitVec 32 := 3#32
  let v107 : BitVec 32 := Scalar.addi v2 c3_i32_101
  let c4_i32_102 : BitVec 32 := 4#32
  let v108 : BitVec 32 := Scalar.remsi v107 c4_i32_102
  let c1_i32_110 : BitVec 32 := 1#32
  let v112 : BitVec 32 := Scalar.muli v108 c1_i32_110
  let v113 : BitVec 32 := Scalar.addi c0_i32_111 v112
  v113.toNat
def k1_dev12 (d0 : Dev nD) : Nat :=
  let c0_i32_124 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_114 : BitVec 32 := 2#32
  let v120 : BitVec 32 := Scalar.addi v2 c2_i32_114
  let c4_i32_115 : BitVec 32 := 4#32
  let v121 : BitVec 32 := Scalar.remsi v120 c4_i32_115
  let c1_i32_123 : BitVec 32 := 1#32
  let v125 : BitVec 32 := Scalar.muli v121 c1_i32_123
  let v126 : BitVec 32 := Scalar.addi c0_i32_124 v125
  v126.toNat
def k1_off5 (d0 : Dev nD) (c1_i32_127 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v133 : BitVec 32 := Scalar.addi v2 c1_i32_127
  let c4_i32_128 : BitVec 32 := 4#32
  let v134 : BitVec 32 := Scalar.remsi v133 c4_i32_128
  let c2048_i32_129 : BitVec 32 := 2048#32
  let v135 : BitVec 32 := Scalar.muli v134 c2048_i32_129
  let c768_i32_138 : BitVec 32 := 768#32
  ![v135.toNat, 768]
def k1_dev13 (d0 : Dev nD) : Nat :=
  let c0_i32_136 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_127 : BitVec 32 := 1#32
  let v133 : BitVec 32 := Scalar.addi v2 c1_i32_127
  let c4_i32_128 : BitVec 32 := 4#32
  let v134 : BitVec 32 := Scalar.remsi v133 c4_i32_128
  let c1_i32_135 : BitVec 32 := 1#32
  let v138 : BitVec 32 := Scalar.muli v134 c1_i32_135
  let v139 : BitVec 32 := Scalar.addi c0_i32_136 v138
  v139.toNat
def k1_dev14 (d0 : Dev nD) : Nat :=
  let c0_i32_149 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_139 : BitVec 32 := 3#32
  let v146 : BitVec 32 := Scalar.addi v2 c3_i32_139
  let c4_i32_140 : BitVec 32 := 4#32
  let v147 : BitVec 32 := Scalar.remsi v146 c4_i32_140
  let c1_i32_148 : BitVec 32 := 1#32
  let v151 : BitVec 32 := Scalar.muli v147 c1_i32_148
  let v152 : BitVec 32 := Scalar.addi c0_i32_149 v151
  v152.toNat
def k1_dev15 (d0 : Dev nD) : Nat :=
  let c0_i32_162 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_152 : BitVec 32 := 2#32
  let v159 : BitVec 32 := Scalar.addi v2 c2_i32_152
  let c4_i32_153 : BitVec 32 := 4#32
  let v160 : BitVec 32 := Scalar.remsi v159 c4_i32_153
  let c1_i32_161 : BitVec 32 := 1#32
  let v164 : BitVec 32 := Scalar.muli v160 c1_i32_161
  let v165 : BitVec 32 := Scalar.addi c0_i32_162 v164
  v165.toNat
def k1_off6 (d0 : Dev nD) (c1_i32_165 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v172 : BitVec 32 := Scalar.addi v2 c1_i32_165
  let c4_i32_166 : BitVec 32 := 4#32
  let v173 : BitVec 32 := Scalar.remsi v172 c4_i32_166
  let c2048_i32_167 : BitVec 32 := 2048#32
  let v174 : BitVec 32 := Scalar.muli v173 c2048_i32_167
  let c1024_i32_176 : BitVec 32 := 1024#32
  ![v174.toNat, 1024]
def k1_dev16 (d0 : Dev nD) : Nat :=
  let c0_i32_174 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_165 : BitVec 32 := 1#32
  let v172 : BitVec 32 := Scalar.addi v2 c1_i32_165
  let c4_i32_166 : BitVec 32 := 4#32
  let v173 : BitVec 32 := Scalar.remsi v172 c4_i32_166
  let c1_i32_173 : BitVec 32 := 1#32
  let v177 : BitVec 32 := Scalar.muli v173 c1_i32_173
  let v178 : BitVec 32 := Scalar.addi c0_i32_174 v177
  v178.toNat
def k1_dev17 (d0 : Dev nD) : Nat :=
  let c0_i32_187 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_177 : BitVec 32 := 3#32
  let v185 : BitVec 32 := Scalar.addi v2 c3_i32_177
  let c4_i32_178 : BitVec 32 := 4#32
  let v186 : BitVec 32 := Scalar.remsi v185 c4_i32_178
  let c1_i32_186 : BitVec 32 := 1#32
  let v190 : BitVec 32 := Scalar.muli v186 c1_i32_186
  let v191 : BitVec 32 := Scalar.addi c0_i32_187 v190
  v191.toNat
def k1_dev18 (d0 : Dev nD) : Nat :=
  let c0_i32_200 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_190 : BitVec 32 := 2#32
  let v198 : BitVec 32 := Scalar.addi v2 c2_i32_190
  let c4_i32_191 : BitVec 32 := 4#32
  let v199 : BitVec 32 := Scalar.remsi v198 c4_i32_191
  let c1_i32_199 : BitVec 32 := 1#32
  let v203 : BitVec 32 := Scalar.muli v199 c1_i32_199
  let v204 : BitVec 32 := Scalar.addi c0_i32_200 v203
  v204.toNat
def k1_off7 (d0 : Dev nD) (c1_i32_203 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v211 : BitVec 32 := Scalar.addi v2 c1_i32_203
  let c4_i32_204 : BitVec 32 := 4#32
  let v212 : BitVec 32 := Scalar.remsi v211 c4_i32_204
  let c2048_i32_205 : BitVec 32 := 2048#32
  let v213 : BitVec 32 := Scalar.muli v212 c2048_i32_205
  let c1280_i32_213 : BitVec 32 := 1280#32
  ![v213.toNat, 1280]
def k1_dev19 (d0 : Dev nD) : Nat :=
  let c0_i32_211 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_203 : BitVec 32 := 1#32
  let v211 : BitVec 32 := Scalar.addi v2 c1_i32_203
  let c4_i32_204 : BitVec 32 := 4#32
  let v212 : BitVec 32 := Scalar.remsi v211 c4_i32_204
  let c1_i32_210 : BitVec 32 := 1#32
  let v216 : BitVec 32 := Scalar.muli v212 c1_i32_210
  let v217 : BitVec 32 := Scalar.addi c0_i32_211 v216
  v217.toNat
def k1_dev20 (d0 : Dev nD) : Nat :=
  let c0_i32_224 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_214 : BitVec 32 := 3#32
  let v224 : BitVec 32 := Scalar.addi v2 c3_i32_214
  let c4_i32_215 : BitVec 32 := 4#32
  let v225 : BitVec 32 := Scalar.remsi v224 c4_i32_215
  let c1_i32_223 : BitVec 32 := 1#32
  let v229 : BitVec 32 := Scalar.muli v225 c1_i32_223
  let v230 : BitVec 32 := Scalar.addi c0_i32_224 v229
  v230.toNat
def k1_dev21 (d0 : Dev nD) : Nat :=
  let c0_i32_237 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_227 : BitVec 32 := 2#32
  let v237 : BitVec 32 := Scalar.addi v2 c2_i32_227
  let c4_i32_228 : BitVec 32 := 4#32
  let v238 : BitVec 32 := Scalar.remsi v237 c4_i32_228
  let c1_i32_236 : BitVec 32 := 1#32
  let v242 : BitVec 32 := Scalar.muli v238 c1_i32_236
  let v243 : BitVec 32 := Scalar.addi c0_i32_237 v242
  v243.toNat
def k1_off8 (d0 : Dev nD) (c1_i32_240 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v250 : BitVec 32 := Scalar.addi v2 c1_i32_240
  let c4_i32_241 : BitVec 32 := 4#32
  let v251 : BitVec 32 := Scalar.remsi v250 c4_i32_241
  let c2048_i32_242 : BitVec 32 := 2048#32
  let v252 : BitVec 32 := Scalar.muli v251 c2048_i32_242
  let c1536_i32_250 : BitVec 32 := 1536#32
  ![v252.toNat, 1536]
def k1_dev22 (d0 : Dev nD) : Nat :=
  let c0_i32_248 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_240 : BitVec 32 := 1#32
  let v250 : BitVec 32 := Scalar.addi v2 c1_i32_240
  let c4_i32_241 : BitVec 32 := 4#32
  let v251 : BitVec 32 := Scalar.remsi v250 c4_i32_241
  let c1_i32_247 : BitVec 32 := 1#32
  let v255 : BitVec 32 := Scalar.muli v251 c1_i32_247
  let v256 : BitVec 32 := Scalar.addi c0_i32_248 v255
  v256.toNat
def k1_dev23 (d0 : Dev nD) : Nat :=
  let c0_i32_261 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_251 : BitVec 32 := 3#32
  let v263 : BitVec 32 := Scalar.addi v2 c3_i32_251
  let c4_i32_252 : BitVec 32 := 4#32
  let v264 : BitVec 32 := Scalar.remsi v263 c4_i32_252
  let c1_i32_260 : BitVec 32 := 1#32
  let v268 : BitVec 32 := Scalar.muli v264 c1_i32_260
  let v269 : BitVec 32 := Scalar.addi c0_i32_261 v268
  v269.toNat
def k1_dev24 (d0 : Dev nD) : Nat :=
  let c0_i32_274 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_264 : BitVec 32 := 2#32
  let v276 : BitVec 32 := Scalar.addi v2 c2_i32_264
  let c4_i32_265 : BitVec 32 := 4#32
  let v277 : BitVec 32 := Scalar.remsi v276 c4_i32_265
  let c1_i32_273 : BitVec 32 := 1#32
  let v281 : BitVec 32 := Scalar.muli v277 c1_i32_273
  let v282 : BitVec 32 := Scalar.addi c0_i32_274 v281
  v282.toNat
def k1_off9 (d0 : Dev nD) (c1_i32_277 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v289 : BitVec 32 := Scalar.addi v2 c1_i32_277
  let c4_i32_278 : BitVec 32 := 4#32
  let v290 : BitVec 32 := Scalar.remsi v289 c4_i32_278
  let c2048_i32_279 : BitVec 32 := 2048#32
  let v291 : BitVec 32 := Scalar.muli v290 c2048_i32_279
  let c1792_i32_287 : BitVec 32 := 1792#32
  ![v291.toNat, 1792]
def k1_dev25 (d0 : Dev nD) : Nat :=
  let c0_i32_285 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_277 : BitVec 32 := 1#32
  let v289 : BitVec 32 := Scalar.addi v2 c1_i32_277
  let c4_i32_278 : BitVec 32 := 4#32
  let v290 : BitVec 32 := Scalar.remsi v289 c4_i32_278
  let c1_i32_284 : BitVec 32 := 1#32
  let v294 : BitVec 32 := Scalar.muli v290 c1_i32_284
  let v295 : BitVec 32 := Scalar.addi c0_i32_285 v294
  v295.toNat
def k1_dev26 (d0 : Dev nD) : Nat :=
  let c0_i32_298 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_288 : BitVec 32 := 3#32
  let v302 : BitVec 32 := Scalar.addi v2 c3_i32_288
  let c4_i32_289 : BitVec 32 := 4#32
  let v303 : BitVec 32 := Scalar.remsi v302 c4_i32_289
  let c1_i32_297 : BitVec 32 := 1#32
  let v307 : BitVec 32 := Scalar.muli v303 c1_i32_297
  let v308 : BitVec 32 := Scalar.addi c0_i32_298 v307
  v308.toNat
def k1_dev27 (d0 : Dev nD) : Nat :=
  let c0_i32_311 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_301 : BitVec 32 := 2#32
  let v315 : BitVec 32 := Scalar.addi v2 c2_i32_301
  let c4_i32_302 : BitVec 32 := 4#32
  let v316 : BitVec 32 := Scalar.remsi v315 c4_i32_302
  let c1_i32_310 : BitVec 32 := 1#32
  let v320 : BitVec 32 := Scalar.muli v316 c1_i32_310
  let v321 : BitVec 32 := Scalar.addi c0_i32_311 v320
  v321.toNat
def k1_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v332 : BitVec 32 := Scalar.muli v2 c8_i32
  let c0_i32_315 : BitVec 32 := 0#32
  let v333 : BitVec 32 := Scalar.addi v332 c0_i32_315
  let c256_i32_316 : BitVec 32 := 256#32
  let v334 : BitVec 32 := Scalar.muli v333 c256_i32_316
  let c0_i32_321 : BitVec 32 := 0#32
  ![v334.toNat, 0]
def k1_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_322 : BitVec 32 := 2048#32
  let v340 : BitVec 32 := Scalar.muli v2 c2048_i32_322
  let c0_i32_327 : BitVec 32 := 0#32
  ![v340.toNat, 0]
@[reducible] def k1_t1_loop : Scf.Loop 32 :=
  let c0_i32_328 : BitVec 32 := 0#32
  let c8_i32_329 : BitVec 32 := 8#32
  let v346 : BitVec 32 := Scalar.addi c0_i32_328 c8_i32_329
  let c1_i32_330 : BitVec 32 := 1#32
  ⟨c0_i32_328, v346, c1_i32_330⟩
def k1_cond1 (k1_t1 : Fin k1_t1_loop.trips) : BitVec 1 :=
  let c0_i32_328 : BitVec 32 := 0#32
  let c1_i32_330 : BitVec 32 := 1#32
  let arg11 : BitVec 32 := Scf.iv c0_i32_328 c1_i32_330 k1_t1
  let c1_i32_508 : BitVec 32 := 1#32
  let v451 : BitVec 32 := Scalar.addi arg11 c1_i32_508
  let c8_i32_509 : BitVec 32 := 8#32
  let v452 : BitVec 1 := Scalar.cmpi .slt v451 c8_i32_509
  let v453 : BitVec 32 := Scalar.extui v452
  let c0_i32_510 : BitVec 32 := 0#32
  let v454 : BitVec 1 := Scalar.cmpi .ne v453 c0_i32_510
  v454

def k1_off12 (k1_t1 : Fin k1_t1_loop.trips) : Fin 1 → Nat :=
  let c0_i32_328 : BitVec 32 := 0#32
  let c1_i32_330 : BitVec 32 := 1#32
  let arg11 : BitVec 32 := Scf.iv c0_i32_328 c1_i32_330 k1_t1
  let c1_i32_506 : BitVec 32 := 1#32
  let v449 : BitVec 32 := Scalar.addi arg11 c1_i32_506
  let c2_i32_507 : BitVec 32 := 2#32
  let v450 : BitVec 32 := Scalar.remsi v449 c2_i32_507
  ![v450.toNat]
def k1_off13 (k1_t1 : Fin k1_t1_loop.trips) : Fin 3 → Nat :=
  let c0_i32_328 : BitVec 32 := 0#32
  let c1_i32_330 : BitVec 32 := 1#32
  let arg11 : BitVec 32 := Scf.iv c0_i32_328 c1_i32_330 k1_t1
  let c1_i32_506 : BitVec 32 := 1#32
  let v449 : BitVec 32 := Scalar.addi arg11 c1_i32_506
  let c2_i32_507 : BitVec 32 := 2#32
  let v450 : BitVec 32 := Scalar.remsi v449 c2_i32_507
  let c0_i32_534 : BitVec 32 := 0#32
  let c0_i32_535 : BitVec 32 := 0#32
  ![v450.toNat, 0, 0]
def k1_off14 (d0 : Dev nD) (k1_t1 : Fin k1_t1_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_531 : BitVec 32 := 8#32
  let v484 : BitVec 32 := Scalar.muli v2 c8_i32_531
  let c0_i32_328 : BitVec 32 := 0#32
  let c1_i32_330 : BitVec 32 := 1#32
  let arg11 : BitVec 32 := Scf.iv c0_i32_328 c1_i32_330 k1_t1
  let v485 : BitVec 32 := Scalar.addi v484 arg11
  let c1_i32_532 : BitVec 32 := 1#32
  let v486 : BitVec 32 := Scalar.addi v485 c1_i32_532
  let c256_i32_533 : BitVec 32 := 256#32
  let v487 : BitVec 32 := Scalar.muli v486 c256_i32_533
  let c0_i32_536 : BitVec 32 := 0#32
  ![v487.toNat, 0]
def k1_off15 (k1_t1 : Fin k1_t1_loop.trips) : Fin 3 → Nat :=
  let c0_i32_328 : BitVec 32 := 0#32
  let c1_i32_330 : BitVec 32 := 1#32
  let arg11 : BitVec 32 := Scf.iv c0_i32_328 c1_i32_330 k1_t1
  let c1_i32_506 : BitVec 32 := 1#32
  let v449 : BitVec 32 := Scalar.addi arg11 c1_i32_506
  let c2_i32_507 : BitVec 32 := 2#32
  let v450 : BitVec 32 := Scalar.remsi v449 c2_i32_507
  let c0_i32_540 : BitVec 32 := 0#32
  let c0_i32_541 : BitVec 32 := 0#32
  ![v450.toNat, 0, 0]
def k1_off16 (d0 : Dev nD) (k1_t1 : Fin k1_t1_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_538 : BitVec 32 := 2048#32
  let v494 : BitVec 32 := Scalar.muli v2 c2048_i32_538
  let c0_i32_328 : BitVec 32 := 0#32
  let c1_i32_330 : BitVec 32 := 1#32
  let arg11 : BitVec 32 := Scf.iv c0_i32_328 c1_i32_330 k1_t1
  let c1_i32_537 : BitVec 32 := 1#32
  let v493 : BitVec 32 := Scalar.addi arg11 c1_i32_537
  let c256_i32_539 : BitVec 32 := 256#32
  let v495 : BitVec 32 := Scalar.muli v493 c256_i32_539
  ![v494.toNat, v495.toNat]
def k1_cond2 (k1_t1 : Fin k1_t1_loop.trips) : BitVec 1 :=
  let c0_i32_328 : BitVec 32 := 0#32
  let c1_i32_330 : BitVec 32 := 1#32
  let arg11 : BitVec 32 := Scf.iv c0_i32_328 c1_i32_330 k1_t1
  let c1_i32_511 : BitVec 32 := 1#32
  let v455 : BitVec 32 := Scalar.addi arg11 c1_i32_511
  let c8_i32_512 : BitVec 32 := 8#32
  let v456 : BitVec 1 := Scalar.cmpi .eq v455 c8_i32_512
  let v457 : BitVec 32 := Scalar.extui v456
  let c0_i32_513 : BitVec 32 := 0#32
  let v458 : BitVec 1 := Scalar.cmpi .ne v457 c0_i32_513
  v458

def k1_off17 : Fin 2 → Nat :=
  let c0_i32_531 : BitVec 32 := 0#32
  let c3_i32_532 : BitVec 32 := 3#32
  let v484 : BitVec 32 := Scalar.remsi c0_i32_531 c3_i32_532
  let c0_i32_533 : BitVec 32 := 0#32
  let v485 : BitVec 1 := Scalar.cmpi .eq v484 c0_i32_533
  let c1_i32_537 : BitVec 32 := 1#32
  let c1_i32_534 : BitVec 32 := 1#32
  let v486 : BitVec 1 := Scalar.cmpi .eq v484 c1_i32_534
  let c3_i32_535 : BitVec 32 := 3#32
  let c2_i32_536 : BitVec 32 := 2#32
  let v487 : BitVec 32 := Scalar.select v486 c3_i32_535 c2_i32_536
  let v488 : BitVec 32 := Scalar.select v485 c1_i32_537 v487
  let c1_i32_545 : BitVec 32 := 1#32
  let v497 : BitVec 32 := Scalar.subi v488 c1_i32_545
  let c0_i32_538 : BitVec 32 := 0#32
  let c3_i32_539 : BitVec 32 := 3#32
  let v489 : BitVec 32 := Scalar.divsi c0_i32_538 c3_i32_539
  ![v497.toNat, v489.toNat]
def k1_off18 (d0 : Dev nD) : Fin 2 → Nat :=
  let c0_i32_548 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_531 : BitVec 32 := 0#32
  let c3_i32_532 : BitVec 32 := 3#32
  let v484 : BitVec 32 := Scalar.remsi c0_i32_531 c3_i32_532
  let c0_i32_533 : BitVec 32 := 0#32
  let v485 : BitVec 1 := Scalar.cmpi .eq v484 c0_i32_533
  let c1_i32_537 : BitVec 32 := 1#32
  let c1_i32_534 : BitVec 32 := 1#32
  let v486 : BitVec 1 := Scalar.cmpi .eq v484 c1_i32_534
  let c3_i32_535 : BitVec 32 := 3#32
  let c2_i32_536 : BitVec 32 := 2#32
  let v487 : BitVec 32 := Scalar.select v486 c3_i32_535 c2_i32_536
  let v488 : BitVec 32 := Scalar.select v485 c1_i32_537 v487
  let v490 : BitVec 32 := Scalar.subi v2 v488
  let c4_i32_540 : BitVec 32 := 4#32
  let v491 : BitVec 32 := Scalar.addi v490 c4_i32_540
  let c4_i32_541 : BitVec 32 := 4#32
  let v492 : BitVec 32 := Scalar.remsi v491 c4_i32_541
  let c2048_i32_542 : BitVec 32 := 2048#32
  let v493 : BitVec 32 := Scalar.muli v492 c2048_i32_542
  let c0_i32_538 : BitVec 32 := 0#32
  let c3_i32_539 : BitVec 32 := 3#32
  let v489 : BitVec 32 := Scalar.divsi c0_i32_538 c3_i32_539
  let c256_i32_543 : BitVec 32 := 256#32
  let v494 : BitVec 32 := Scalar.muli v489 c256_i32_543
  let v495 : BitVec 32 := Scalar.addi v493 v494
  ![0, v495.toNat]
def k1_off19 (k1_t1 : Fin k1_t1_loop.trips) : Fin 1 → Nat :=
  let c0_i32_328 : BitVec 32 := 0#32
  let c1_i32_330 : BitVec 32 := 1#32
  let arg11 : BitVec 32 := Scf.iv c0_i32_328 c1_i32_330 k1_t1
  let c1_i32_506 : BitVec 32 := 1#32
  let v449 : BitVec 32 := Scalar.addi arg11 c1_i32_506
  let c2_i32_507 : BitVec 32 := 2#32
  let v450 : BitVec 32 := Scalar.remsi v449 c2_i32_507
  ![v450.toNat]
def k1_off20 (k1_t1 : Fin k1_t1_loop.trips) : Fin 3 → Nat :=
  let c0_i32_328 : BitVec 32 := 0#32
  let c1_i32_330 : BitVec 32 := 1#32
  let arg11 : BitVec 32 := Scf.iv c0_i32_328 c1_i32_330 k1_t1
  let c1_i32_506 : BitVec 32 := 1#32
  let v449 : BitVec 32 := Scalar.addi arg11 c1_i32_506
  let c2_i32_507 : BitVec 32 := 2#32
  let v450 : BitVec 32 := Scalar.remsi v449 c2_i32_507
  let c0_i32_554 : BitVec 32 := 0#32
  let c0_i32_555 : BitVec 32 := 0#32
  ![v450.toNat, 0, 0]
def k1_off21 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_531 : BitVec 32 := 0#32
  let c3_i32_532 : BitVec 32 := 3#32
  let v484 : BitVec 32 := Scalar.remsi c0_i32_531 c3_i32_532
  let c0_i32_533 : BitVec 32 := 0#32
  let v485 : BitVec 1 := Scalar.cmpi .eq v484 c0_i32_533
  let c1_i32_537 : BitVec 32 := 1#32
  let c1_i32_534 : BitVec 32 := 1#32
  let v486 : BitVec 1 := Scalar.cmpi .eq v484 c1_i32_534
  let c3_i32_535 : BitVec 32 := 3#32
  let c2_i32_536 : BitVec 32 := 2#32
  let v487 : BitVec 32 := Scalar.select v486 c3_i32_535 c2_i32_536
  let v488 : BitVec 32 := Scalar.select v485 c1_i32_537 v487
  let v504 : BitVec 32 := Scalar.subi v2 v488
  let c4_i32_550 : BitVec 32 := 4#32
  let v505 : BitVec 32 := Scalar.addi v504 c4_i32_550
  let c4_i32_551 : BitVec 32 := 4#32
  let v506 : BitVec 32 := Scalar.remsi v505 c4_i32_551
  let c8_i32_552 : BitVec 32 := 8#32
  let v507 : BitVec 32 := Scalar.muli v506 c8_i32_552
  let c0_i32_538 : BitVec 32 := 0#32
  let c3_i32_539 : BitVec 32 := 3#32
  let v489 : BitVec 32 := Scalar.divsi c0_i32_538 c3_i32_539
  let v508 : BitVec 32 := Scalar.addi v507 v489
  let c256_i32_553 : BitVec 32 := 256#32
  let v509 : BitVec 32 := Scalar.muli v508 c256_i32_553
  let c0_i32_556 : BitVec 32 := 0#32
  ![v509.toNat, 0]
def k1_off22 (k1_t1 : Fin k1_t1_loop.trips) : Fin 3 → Nat :=
  let c0_i32_328 : BitVec 32 := 0#32
  let c1_i32_330 : BitVec 32 := 1#32
  let arg11 : BitVec 32 := Scf.iv c0_i32_328 c1_i32_330 k1_t1
  let c1_i32_506 : BitVec 32 := 1#32
  let v449 : BitVec 32 := Scalar.addi arg11 c1_i32_506
  let c2_i32_507 : BitVec 32 := 2#32
  let v450 : BitVec 32 := Scalar.remsi v449 c2_i32_507
  let c0_i32_561 : BitVec 32 := 0#32
  let c0_i32_562 : BitVec 32 := 0#32
  ![v450.toNat, 0, 0]
def k1_off23 (k1_t1 : Fin k1_t1_loop.trips) : Fin 1 → Nat :=
  let c0_i32_328 : BitVec 32 := 0#32
  let c1_i32_330 : BitVec 32 := 1#32
  let arg11 : BitVec 32 := Scf.iv c0_i32_328 c1_i32_330 k1_t1
  let c2_i32_505 : BitVec 32 := 2#32
  let v448 : BitVec 32 := Scalar.remsi arg11 c2_i32_505
  ![v448.toNat]
def k1_off24 (k1_t1 : Fin k1_t1_loop.trips) : Fin 3 → Nat :=
  let c0_i32_328 : BitVec 32 := 0#32
  let c1_i32_330 : BitVec 32 := 1#32
  let arg11 : BitVec 32 := Scf.iv c0_i32_328 c1_i32_330 k1_t1
  let c2_i32_505 : BitVec 32 := 2#32
  let v448 : BitVec 32 := Scalar.remsi arg11 c2_i32_505
  let c0_i32_514 : BitVec 32 := 0#32
  let c0_i32_515 : BitVec 32 := 0#32
  ![v448.toNat, 0, 0]
def k1_off25 (k1_t1 : Fin k1_t1_loop.trips) : Fin 3 → Nat :=
  let c0_i32_328 : BitVec 32 := 0#32
  let c1_i32_330 : BitVec 32 := 1#32
  let arg11 : BitVec 32 := Scf.iv c0_i32_328 c1_i32_330 k1_t1
  let c2_i32_505 : BitVec 32 := 2#32
  let v448 : BitVec 32 := Scalar.remsi arg11 c2_i32_505
  let c0_i32_518 : BitVec 32 := 0#32
  let c0_i32_519 : BitVec 32 := 0#32
  ![v448.toNat, 0, 0]
def k1_off26 (k1_t1 : Fin k1_t1_loop.trips) : Fin 3 → Nat :=
  let c0_i32_328 : BitVec 32 := 0#32
  let c1_i32_330 : BitVec 32 := 1#32
  let arg11 : BitVec 32 := Scf.iv c0_i32_328 c1_i32_330 k1_t1
  let c2_i32_505 : BitVec 32 := 2#32
  let v448 : BitVec 32 := Scalar.remsi arg11 c2_i32_505
  let v472 : Index := Scalar.indexCast v448
  let c0_524 : Index := 0#32
  let c0_525 : Index := 0#32
  ![v472.toNat, 0, 0]
def k1_off27 (k1_t1 : Fin k1_t1_loop.trips) : Fin 3 → Nat :=
  let c0_i32_328 : BitVec 32 := 0#32
  let c1_i32_330 : BitVec 32 := 1#32
  let arg11 : BitVec 32 := Scf.iv c0_i32_328 c1_i32_330 k1_t1
  let c2_i32_505 : BitVec 32 := 2#32
  let v448 : BitVec 32 := Scalar.remsi arg11 c2_i32_505
  let v476 : Index := Scalar.indexCast v448
  let c0_526 : Index := 0#32
  let c0_527 : Index := 0#32
  ![v476.toNat, 0, 0]
@[reducible] def k1_t2_loop : Scf.Loop 32 :=
  let c0_i32_332 : BitVec 32 := 0#32
  let c24_i32 : BitVec 32 := 24#32
  let v347 : BitVec 32 := Scalar.addi c0_i32_332 c24_i32
  let c1_i32_333 : BitVec 32 := 1#32
  ⟨c0_i32_332, v347, c1_i32_333⟩
def k1_cond3 (k1_t2 : Fin k1_t2_loop.trips) : BitVec 1 :=
  let c0_i32_332 : BitVec 32 := 0#32
  let c1_i32_333 : BitVec 32 := 1#32
  let arg11 : BitVec 32 := Scf.iv c0_i32_332 c1_i32_333 k1_t2
  let c1_i32_510 : BitVec 32 := 1#32
  let v453 : BitVec 32 := Scalar.addi arg11 c1_i32_510
  let c24_i32_511 : BitVec 32 := 24#32
  let v454 : BitVec 1 := Scalar.cmpi .slt v453 c24_i32_511
  let v455 : BitVec 32 := Scalar.extui v454
  let c0_i32_512 : BitVec 32 := 0#32
  let v456 : BitVec 1 := Scalar.cmpi .ne v455 c0_i32_512
  v456

def k1_off28 (k1_t2 : Fin k1_t2_loop.trips) : Fin 2 → Nat :=
  let c0_i32_332 : BitVec 32 := 0#32
  let c1_i32_333 : BitVec 32 := 1#32
  let arg11 : BitVec 32 := Scf.iv c0_i32_332 c1_i32_333 k1_t2
  let c1_i32_530 : BitVec 32 := 1#32
  let v482 : BitVec 32 := Scalar.addi arg11 c1_i32_530
  let c3_i32_531 : BitVec 32 := 3#32
  let v483 : BitVec 32 := Scalar.remsi v482 c3_i32_531
  let c0_i32_532 : BitVec 32 := 0#32
  let v484 : BitVec 1 := Scalar.cmpi .eq v483 c0_i32_532
  let c1_i32_536 : BitVec 32 := 1#32
  let c1_i32_533 : BitVec 32 := 1#32
  let v485 : BitVec 1 := Scalar.cmpi .eq v483 c1_i32_533
  let c3_i32_534 : BitVec 32 := 3#32
  let c2_i32_535 : BitVec 32 := 2#32
  let v486 : BitVec 32 := Scalar.select v485 c3_i32_534 c2_i32_535
  let v487 : BitVec 32 := Scalar.select v484 c1_i32_536 v486
  let c1_i32_543 : BitVec 32 := 1#32
  let v496 : BitVec 32 := Scalar.subi v487 c1_i32_543
  let c3_i32_537 : BitVec 32 := 3#32
  let v488 : BitVec 32 := Scalar.divsi v482 c3_i32_537
  ![v496.toNat, v488.toNat]
def k1_off29 (d0 : Dev nD) (k1_t2 : Fin k1_t2_loop.trips) : Fin 2 → Nat :=
  let c0_i32_546 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_332 : BitVec 32 := 0#32
  let c1_i32_333 : BitVec 32 := 1#32
  let arg11 : BitVec 32 := Scf.iv c0_i32_332 c1_i32_333 k1_t2
  let c1_i32_530 : BitVec 32 := 1#32
  let v482 : BitVec 32 := Scalar.addi arg11 c1_i32_530
  let c3_i32_531 : BitVec 32 := 3#32
  let v483 : BitVec 32 := Scalar.remsi v482 c3_i32_531
  let c0_i32_532 : BitVec 32 := 0#32
  let v484 : BitVec 1 := Scalar.cmpi .eq v483 c0_i32_532
  let c1_i32_536 : BitVec 32 := 1#32
  let c1_i32_533 : BitVec 32 := 1#32
  let v485 : BitVec 1 := Scalar.cmpi .eq v483 c1_i32_533
  let c3_i32_534 : BitVec 32 := 3#32
  let c2_i32_535 : BitVec 32 := 2#32
  let v486 : BitVec 32 := Scalar.select v485 c3_i32_534 c2_i32_535
  let v487 : BitVec 32 := Scalar.select v484 c1_i32_536 v486
  let v489 : BitVec 32 := Scalar.subi v2 v487
  let c4_i32_538 : BitVec 32 := 4#32
  let v490 : BitVec 32 := Scalar.addi v489 c4_i32_538
  let c4_i32_539 : BitVec 32 := 4#32
  let v491 : BitVec 32 := Scalar.remsi v490 c4_i32_539
  let c2048_i32_540 : BitVec 32 := 2048#32
  let v492 : BitVec 32 := Scalar.muli v491 c2048_i32_540
  let c3_i32_537 : BitVec 32 := 3#32
  let v488 : BitVec 32 := Scalar.divsi v482 c3_i32_537
  let c256_i32_541 : BitVec 32 := 256#32
  let v493 : BitVec 32 := Scalar.muli v488 c256_i32_541
  let v494 : BitVec 32 := Scalar.addi v492 v493
  ![0, v494.toNat]
def k1_off30 (k1_t2 : Fin k1_t2_loop.trips) : Fin 1 → Nat :=
  let c8_i32_507 : BitVec 32 := 8#32
  let c0_i32_332 : BitVec 32 := 0#32
  let c1_i32_333 : BitVec 32 := 1#32
  let arg11 : BitVec 32 := Scf.iv c0_i32_332 c1_i32_333 k1_t2
  let v450 : BitVec 32 := Scalar.addi c8_i32_507 arg11
  let c1_i32_508 : BitVec 32 := 1#32
  let v451 : BitVec 32 := Scalar.addi v450 c1_i32_508
  let c2_i32_509 : BitVec 32 := 2#32
  let v452 : BitVec 32 := Scalar.remsi v451 c2_i32_509
  ![v452.toNat]
def k1_off31 (k1_t2 : Fin k1_t2_loop.trips) : Fin 3 → Nat :=
  let c8_i32_507 : BitVec 32 := 8#32
  let c0_i32_332 : BitVec 32 := 0#32
  let c1_i32_333 : BitVec 32 := 1#32
  let arg11 : BitVec 32 := Scf.iv c0_i32_332 c1_i32_333 k1_t2
  let v450 : BitVec 32 := Scalar.addi c8_i32_507 arg11
  let c1_i32_508 : BitVec 32 := 1#32
  let v451 : BitVec 32 := Scalar.addi v450 c1_i32_508
  let c2_i32_509 : BitVec 32 := 2#32
  let v452 : BitVec 32 := Scalar.remsi v451 c2_i32_509
  let c0_i32_552 : BitVec 32 := 0#32
  let c0_i32_553 : BitVec 32 := 0#32
  ![v452.toNat, 0, 0]
def k1_off32 (d0 : Dev nD) (k1_t2 : Fin k1_t2_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_332 : BitVec 32 := 0#32
  let c1_i32_333 : BitVec 32 := 1#32
  let arg11 : BitVec 32 := Scf.iv c0_i32_332 c1_i32_333 k1_t2
  let c1_i32_530 : BitVec 32 := 1#32
  let v482 : BitVec 32 := Scalar.addi arg11 c1_i32_530
  let c3_i32_531 : BitVec 32 := 3#32
  let v483 : BitVec 32 := Scalar.remsi v482 c3_i32_531
  let c0_i32_532 : BitVec 32 := 0#32
  let v484 : BitVec 1 := Scalar.cmpi .eq v483 c0_i32_532
  let c1_i32_536 : BitVec 32 := 1#32
  let c1_i32_533 : BitVec 32 := 1#32
  let v485 : BitVec 1 := Scalar.cmpi .eq v483 c1_i32_533
  let c3_i32_534 : BitVec 32 := 3#32
  let c2_i32_535 : BitVec 32 := 2#32
  let v486 : BitVec 32 := Scalar.select v485 c3_i32_534 c2_i32_535
  let v487 : BitVec 32 := Scalar.select v484 c1_i32_536 v486
  let v503 : BitVec 32 := Scalar.subi v2 v487
  let c4_i32_548 : BitVec 32 := 4#32
  let v504 : BitVec 32 := Scalar.addi v503 c4_i32_548
  let c4_i32_549 : BitVec 32 := 4#32
  let v505 : BitVec 32 := Scalar.remsi v504 c4_i32_549
  let c8_i32_550 : BitVec 32 := 8#32
  let v506 : BitVec 32 := Scalar.muli v505 c8_i32_550
  let c3_i32_537 : BitVec 32 := 3#32
  let v488 : BitVec 32 := Scalar.divsi v482 c3_i32_537
  let v507 : BitVec 32 := Scalar.addi v506 v488
  let c256_i32_551 : BitVec 32 := 256#32
  let v508 : BitVec 32 := Scalar.muli v507 c256_i32_551
  let c0_i32_554 : BitVec 32 := 0#32
  ![v508.toNat, 0]
def k1_off33 (k1_t2 : Fin k1_t2_loop.trips) : Fin 3 → Nat :=
  let c8_i32_507 : BitVec 32 := 8#32
  let c0_i32_332 : BitVec 32 := 0#32
  let c1_i32_333 : BitVec 32 := 1#32
  let arg11 : BitVec 32 := Scf.iv c0_i32_332 c1_i32_333 k1_t2
  let v450 : BitVec 32 := Scalar.addi c8_i32_507 arg11
  let c1_i32_508 : BitVec 32 := 1#32
  let v451 : BitVec 32 := Scalar.addi v450 c1_i32_508
  let c2_i32_509 : BitVec 32 := 2#32
  let v452 : BitVec 32 := Scalar.remsi v451 c2_i32_509
  let c0_i32_559 : BitVec 32 := 0#32
  let c0_i32_560 : BitVec 32 := 0#32
  ![v452.toNat, 0, 0]
def k1_off34 (k1_t2 : Fin k1_t2_loop.trips) : Fin 1 → Nat :=
  let c8_i32_505 : BitVec 32 := 8#32
  let c0_i32_332 : BitVec 32 := 0#32
  let c1_i32_333 : BitVec 32 := 1#32
  let arg11 : BitVec 32 := Scf.iv c0_i32_332 c1_i32_333 k1_t2
  let v448 : BitVec 32 := Scalar.addi c8_i32_505 arg11
  let c2_i32_506 : BitVec 32 := 2#32
  let v449 : BitVec 32 := Scalar.remsi v448 c2_i32_506
  ![v449.toNat]
def k1_off35 (k1_t2 : Fin k1_t2_loop.trips) : Fin 3 → Nat :=
  let c8_i32_505 : BitVec 32 := 8#32
  let c0_i32_332 : BitVec 32 := 0#32
  let c1_i32_333 : BitVec 32 := 1#32
  let arg11 : BitVec 32 := Scf.iv c0_i32_332 c1_i32_333 k1_t2
  let v448 : BitVec 32 := Scalar.addi c8_i32_505 arg11
  let c2_i32_506 : BitVec 32 := 2#32
  let v449 : BitVec 32 := Scalar.remsi v448 c2_i32_506
  let c0_i32_513 : BitVec 32 := 0#32
  let c0_i32_514 : BitVec 32 := 0#32
  ![v449.toNat, 0, 0]
def k1_off36 (k1_t2 : Fin k1_t2_loop.trips) : Fin 3 → Nat :=
  let c8_i32_505 : BitVec 32 := 8#32
  let c0_i32_332 : BitVec 32 := 0#32
  let c1_i32_333 : BitVec 32 := 1#32
  let arg11 : BitVec 32 := Scf.iv c0_i32_332 c1_i32_333 k1_t2
  let v448 : BitVec 32 := Scalar.addi c8_i32_505 arg11
  let c2_i32_506 : BitVec 32 := 2#32
  let v449 : BitVec 32 := Scalar.remsi v448 c2_i32_506
  let c0_i32_517 : BitVec 32 := 0#32
  let c0_i32_518 : BitVec 32 := 0#32
  ![v449.toNat, 0, 0]
def k1_off37 (k1_t2 : Fin k1_t2_loop.trips) : Fin 3 → Nat :=
  let c8_i32_505 : BitVec 32 := 8#32
  let c0_i32_332 : BitVec 32 := 0#32
  let c1_i32_333 : BitVec 32 := 1#32
  let arg11 : BitVec 32 := Scf.iv c0_i32_332 c1_i32_333 k1_t2
  let v448 : BitVec 32 := Scalar.addi c8_i32_505 arg11
  let c2_i32_506 : BitVec 32 := 2#32
  let v449 : BitVec 32 := Scalar.remsi v448 c2_i32_506
  let v470 : Index := Scalar.indexCast v449
  let c0_523 : Index := 0#32
  let c0_524 : Index := 0#32
  ![v470.toNat, 0, 0]
def k1_off38 (k1_t2 : Fin k1_t2_loop.trips) : Fin 3 → Nat :=
  let c8_i32_505 : BitVec 32 := 8#32
  let c0_i32_332 : BitVec 32 := 0#32
  let c1_i32_333 : BitVec 32 := 1#32
  let arg11 : BitVec 32 := Scf.iv c0_i32_332 c1_i32_333 k1_t2
  let v448 : BitVec 32 := Scalar.addi c8_i32_505 arg11
  let c2_i32_506 : BitVec 32 := 2#32
  let v449 : BitVec 32 := Scalar.remsi v448 c2_i32_506
  let v474 : Index := Scalar.indexCast v449
  let c0_525 : Index := 0#32
  let c0_526 : Index := 0#32
  ![v474.toNat, 0, 0]
-- ==== ReferenceIdeal.lean ====
abbrev S8192x8192 : Shape := ⟨2, ![8192, 8192]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Geom.lean ====
/- The layout of the fused call's traffic: which peer, which column piece and which semaphore the
   n-th transfer uses, the element sets those pieces cover, and what each buffer holds. -/
module

public import proofs.«01_k».proof.Proof.Gen.KernelIdeal.Skeleton
public import Idealize.ShloMosaic.Lib.Pointwise.Index
public import Idealize.ShloMosaic.Lib.Pipeline.ValueKit.Geometry

@[expose] public section

set_option maxRecDepth 16384

noncomputable section

namespace Cert.KernelIdeal.Hand

open Cert.KernelIdeal Cert.KernelIdeal.Gen
open Idealize.ShloMosaic Idealize.ShloMosaic.TcCoe

variable {F : FTy → Type}

/-! ## The order of the transfers -/

/-- There are four devices. -/
theorem dev_lt (c : Dev nD) : c.val < 4 := c.isLt

/-- The column chunk that transfer `j` of the 24 moves. -/
def kc (j : ℕ) : ℕ := j / 3
/-- How many devices ahead transfer `j` goes: the cycle 1, 3, 2. -/
def dd (j : ℕ) : ℕ := if j % 3 = 0 then 1 else if j % 3 = 1 then 3 else 2

/-- A transfer leaves its device. -/
theorem dd_pos (j : ℕ) : 1 ≤ dd j := by unfold dd; split <;> [skip; split] <;> omega
/-- A transfer goes at most three devices ahead. -/
theorem dd_lt (j : ℕ) : dd j < 4 := by unfold dd; split <;> [skip; split] <;> omega
/-- There are eight column chunks. -/
theorem kc_lt (j : Fin 24) : kc j < 8 := by unfold kc; omega

/-- The device transfer `j` of device `c` goes to. -/
def tgt (c : Dev nD) (j : ℕ) : Dev nD := ⟨(c.val + dd j) % 4, Nat.mod_lt _ (by decide)⟩
/-- The device that transfer `j` comes from, seen from the receiver `c`. -/
def srcD (c : Dev nD) (j : ℕ) : Dev nD := ⟨(c.val + (4 - dd j)) % 4, Nat.mod_lt _ (by decide)⟩

/-- The target of transfer `j` sees its sender as the source. -/
theorem srcD_tgt (c : Dev nD) (j : ℕ) : srcD (tgt c j) j = c := by
  apply Fin.ext; have := dd_lt j; have := dd_pos j; have := dev_lt c
  simp only [srcD, tgt]; omega
/-- The source of transfer `j` sees its receiver as the target. -/
theorem tgt_srcD (c : Dev nD) (j : ℕ) : tgt (srcD c j) j = c := by
  apply Fin.ext; have := dd_lt j; have := dd_pos j; have := dev_lt c
  simp only [srcD, tgt]; omega

/-- The device `d` places ahead. -/
def fwd (c : Dev nD) (d : ℕ) : Dev nD := ⟨(c.val + d) % 4, Nat.mod_lt _ (by decide)⟩

/-- The column piece (of 32) that tile `n` of device `c`'s contraction reads: its own eight first, then the 24 received in
    the order of the transfers. -/
def qn (c : Dev nD) (n : ℕ) : ℕ := if n < 8 then 8 * c.val + n else 8 * (srcD c (n - 8)).val + kc (n - 8)

/-- There are 32 tiles. -/
theorem qn_lt (c : Dev nD) {n : ℕ} (h : n < 32) : qn c n < 32 := by
  unfold qn kc; have := dev_lt c; have := dev_lt (srcD c (n - 8)); split <;> omega
/-- The first eight tiles are those of the own columns. -/
theorem qn_own (c : Dev nD) {n : ℕ} (h : n < 8) : qn c n = 8 * c.val + n := if_pos h
/-- The tile taken after `8 + j` others is the one that arrival `j` fills. -/
theorem qn_recv (c : Dev nD) (j : ℕ) : qn c (8 + j) = 8 * (srcD c j).val + kc j := by
  unfold qn; rw [if_neg (by omega), Nat.add_sub_cancel_left]

/-- The piece a sender writes on its target: its own strip, chunk `kc j`. -/
theorem qn_tgt (c : Dev nD) (j : ℕ) : qn (tgt c j) (8 + j) = 8 * c.val + kc j := by
  rw [qn_recv, srcD_tgt]

/-! ## The semaphores -/

/-- The semaphore of a transfer sent is among the 56 of the two kernels. -/
theorem sendSem_lt (j : ℕ) (h : j < 24) : 8 + (8 * (dd j - 1) + kc j) < 56 := by
  have := dd_lt j; unfold kc; omega
/-- The semaphore of an arrival is among the 56 of the two kernels. -/
theorem recvSem_lt (j : ℕ) (h : j < 24) : 32 + (8 * (dd j - 1) + kc j) < 56 := by
  have := dd_lt j; unfold kc; omega

/-- The semaphore that transfer `j` credits on the sender. -/
def sendSem (j : Fin 24) : DmaSem sig := ⟨8 + (8 * (dd j - 1) + kc j), sendSem_lt j j.isLt⟩
/-- The semaphore that transfer `j` credits on the receiver. -/
def recvSem (j : Fin 24) : DmaSem sig := ⟨32 + (8 * (dd j - 1) + kc j), recvSem_lt j j.isLt⟩
/-- The semaphore of the copies into slot `s` of the first operand's staging buffer. -/
def aSem (s : Fin 2) : DmaSem sig := ⟨4 + s.val, show 4 + s.val < 56 by omega⟩
/-- The semaphore of the copies into slot `s` of the second operand's staging buffer. -/
def wSem (s : Fin 2) : DmaSem sig := ⟨6 + s.val, show 6 + s.val < 56 by omega⟩
/-- The barrier semaphore. -/
abbrev barS : Sem sig := ⟨0, by decide⟩

/-- Each transfer sent has a semaphore of its own. -/
theorem sendSem_inj : Function.Injective sendSem := by decide
/-- Each arrival has a semaphore of its own. -/
theorem recvSem_inj : Function.Injective recvSem := by decide

/-- One cell of a 3-by-8 array of consecutive semaphores. -/
theorem sem_cell2 {base : ℕ} (hb : base + S3x8.numel ≤ 56) (d k : ℕ) (inb) :
    ((((SemArray.consecutive (n := 56) base S3x8 hb).slice (Rect.unit (s := S3x8) ![d, k] S1x1.size inb)).squeeze S_ squeezes_S1x1_S_).sem).val
      = base + (d * 8 + k) := by
  show base + (S3x8.rowMajor _).val = _
  rw [Shape.rowMajor_val_two, ValueKit.rect_emb_unit_val, ValueKit.rect_emb_unit_val]
  generalize Shape.reshapeEquiv _ _ = x
  have h0 : (x 0).val < 1 := (x 0).isLt
  have h1 : (x 1).val < 1 := (x 1).isLt
  show base + ((d + (x 0).val) * 8 + (k + (x 1).val)) = _
  omega

/-- One cell of a pair of consecutive semaphores. -/
theorem sem_cell1 {base : ℕ} (hb : base + S2.numel ≤ 56) (s : ℕ) (inb) :
    ((((SemArray.consecutive (n := 56) base S2 hb).slice (Rect.unit (s := S2) ![s] S1.size inb)).squeeze S_ squeezes_S1_S_).sem).val
      = base + s := by
  show base + (S2.rowMajor _).val = _
  rw [Shape.rowMajor_val_one, ValueKit.rect_emb_unit_val]
  generalize Shape.reshapeEquiv _ _ = x
  have h0 : (x 0).val < 1 := (x 0).isLt
  show base + (s + (x 0).val) = _
  omega

/-! ## The pieces -/

/-- Column piece `q` of the gathered buffer. -/
def colSet (q : ℕ) : Finset S2048x8192.Idx := Finset.univ.filter fun i => (i 1).val / 256 = q
/-- Slot `s` of the first operand's staging buffer. -/
def aSet (s : ℕ) : Finset S2x2048x256.Idx := Finset.univ.filter fun i => (i 0).val = s
/-- Slot `s` of the second operand's staging buffer. -/
def wSet (s : ℕ) : Finset S2x256x4096.Idx := Finset.univ.filter fun i => (i 0).val = s

/-- Different column tiles do not meet. -/
theorem colSet_disj {q q' : ℕ} (h : q ≠ q') : Disjoint (colSet q) (colSet q') :=
  Finset.disjoint_left.mpr fun i hi hi' => h ((Finset.mem_filter.mp hi).2.symm.trans (Finset.mem_filter.mp hi').2)
/-- The two slots of the first operand do not meet. -/
theorem aSet_disj : Disjoint (aSet 0) (aSet 1) :=
  Finset.disjoint_left.mpr fun i hi hi' => absurd ((Finset.mem_filter.mp hi).2.symm.trans (Finset.mem_filter.mp hi').2) (by decide)
/-- The two slots of the second operand do not meet. -/
theorem wSet_disj : Disjoint (wSet 0) (wSet 1) :=
  Finset.disjoint_left.mpr fun i hi hi' => absurd ((Finset.mem_filter.mp hi).2.symm.trans (Finset.mem_filter.mp hi').2) (by decide)
/-- The two slots are the whole staging buffer of the first operand. -/
theorem aSet_union : aSet 0 ∪ aSet 1 = Finset.univ := by
  ext i; have h : (i 0).val < 2 := (i 0).isLt
  simp only [aSet, Finset.mem_union, Finset.mem_filter, Finset.mem_univ, true_and, iff_true]; omega
/-- The two slots are the whole staging buffer of the second operand. -/
theorem wSet_union : wSet 0 ∪ wSet 1 = Finset.univ := by
  ext i; have h : (i 0).val < 2 := (i 0).isLt
  simp only [wSet, Finset.mem_union, Finset.mem_filter, Finset.mem_univ, true_and, iff_true]; omega
/-- The 32 column tiles are the whole buffer of gathered rows. -/
theorem colSet_biUnion : (Finset.univ : Finset (Fin 32)).biUnion (fun q => colSet q.val) = Finset.univ := by
  ext i; have h : (i 1).val < 8192 := (i 1).isLt
  simp only [Finset.mem_biUnion, Finset.mem_univ, true_and, iff_true]
  exact ⟨⟨(i 1).val / 256, by omega⟩, Finset.mem_filter.mpr ⟨Finset.mem_univ _, rfl⟩⟩

/-- A column piece of the gathered buffer, as the kernel slices it. -/
abbrev gM (off : Fin 2 → ℕ) (h : ∀ a, off a + S2048x256.size a ≤ S2048x8192.size a) : Memref sig .tc .hbm S2048x256 .bf16 :=
  (Memref.whole main_v2_1).slice (Rect.unit (s := S2048x8192) off S2048x256.size h) (fun _ => rfl)
/-- A block of the cast operand, as the kernel slices it. -/
abbrev xM (off : Fin 2 → ℕ) (h : ∀ a, off a + S2048x256.size a ≤ S8192x2048.size a) : Memref sig .tc .hbm S2048x256 .bf16 :=
  (Memref.whole main_v1).slice (Rect.unit (s := S8192x2048) off S2048x256.size h) (fun _ => rfl)
/-- A row tile of the second operand, as the kernel slices it. -/
abbrev bM (off : Fin 2 → ℕ) (h : ∀ a, off a + S256x4096.size a ≤ S8192x4096.size a) : Memref sig .tc .hbm S256x4096 .f32 :=
  (Memref.whole main_arg1).slice (Rect.unit (s := S8192x4096) off S256x4096.size h) (fun _ => rfl)
/-- A slot of the first operand's staging buffer, squeezed. -/
abbrev aM (off : Fin 3 → ℕ) (h : ∀ a, off a + S1x2048x256.size a ≤ S2x2048x256.size a) : Memref sig .tc .vmem S2048x256 .bf16 :=
  ((Memref.whole cc1_scratch1).slice (Rect.unit (s := S2x2048x256) off S1x2048x256.size h) (fun _ => rfl)).squeeze S2048x256 squeezes_S1x2048x256_S2048x256
/-- A slot of the second operand's staging buffer, squeezed. -/
abbrev wM (off : Fin 3 → ℕ) (h : ∀ a, off a + S1x256x4096.size a ≤ S2x256x4096.size a) : Memref sig .tc .vmem S256x4096 .f32 :=
  ((Memref.whole cc1_scratch2).slice (Rect.unit (s := S2x256x4096) off S1x256x4096.size h) (fun _ => rfl)).squeeze S256x4096 squeezes_S1x256x4096_S256x4096

/-- The piece of the gathered rows at column `256 q` is column tile `q`. -/
theorem gM_set {off : Fin 2 → ℕ} (h) {q : ℕ} (e : off = ![0, 256 * q]) : (gM off h).view.set = colSet q := by
  subst e
  refine Finset.ext fun i => ?_
  refine (ValueKit.mem_set_slice_whole_iff main_v2_1 _ i (Rect.mem_set_unit)).trans ?_
  have h0 : (i 0).val < 2048 := (i 0).isLt
  refine ValueKit.forall_fin_iff_conj.trans ?_
  rw [colSet, Finset.mem_filter]
  show (0 ≤ (i 0).val ∧ (i 0).val < 0 + 2048) ∧ (256 * q ≤ (i 1).val ∧ (i 1).val < 256 * q + 256) ↔ _
  simp only [Finset.mem_univ, true_and]; omega

/-- The piece of the first staging buffer at `s` is slot `s`. -/
theorem aM_set {off : Fin 3 → ℕ} (h) {s : ℕ} (e : off = ![s, 0, 0]) : (aM off h).view.set = aSet s := by
  subst e
  refine Finset.ext fun i => ?_
  refine Iff.trans (Eq.to_iff (congrArg (i ∈ ·) (View.set_reshape _ _))) ?_
  refine (ValueKit.mem_set_slice_whole_iff cc1_scratch1 _ i (Rect.mem_set_unit)).trans ?_
  have h1 : (i 1).val < 2048 := (i 1).isLt
  have h2 : (i 2).val < 256 := (i 2).isLt
  refine ValueKit.forall_fin_iff_conj.trans ?_
  rw [aSet, Finset.mem_filter]
  show (s ≤ (i 0).val ∧ (i 0).val < s + 1) ∧ (0 ≤ (i 1).val ∧ (i 1).val < 0 + 2048) ∧ (0 ≤ (i 2).val ∧ (i 2).val < 0 + 256) ↔ _
  simp only [Finset.mem_univ, true_and]; omega

/-- The piece of the second staging buffer at `s` is slot `s`. -/
theorem wM_set {off : Fin 3 → ℕ} (h) {s : ℕ} (e : off = ![s, 0, 0]) : (wM off h).view.set = wSet s := by
  subst e
  refine Finset.ext fun i => ?_
  refine Iff.trans (Eq.to_iff (congrArg (i ∈ ·) (View.set_reshape _ _))) ?_
  refine (ValueKit.mem_set_slice_whole_iff cc1_scratch2 _ i (Rect.mem_set_unit)).trans ?_
  have h1 : (i 1).val < 256 := (i 1).isLt
  have h2 : (i 2).val < 4096 := (i 2).isLt
  refine ValueKit.forall_fin_iff_conj.trans ?_
  rw [wSet, Finset.mem_filter]
  show (s ≤ (i 0).val ∧ (i 0).val < s + 1) ∧ (0 ≤ (i 1).val ∧ (i 1).val < 0 + 256) ∧ (0 ≤ (i 2).val ∧ (i 2).val < 0 + 4096) ↔ _
  simp only [Finset.mem_univ, true_and]; omega

/-! ## The contents -/

/-- Device `c`'s gathered rows: column strip `d` holds device `d`'s cast block of rows `c`. -/
def Xa (xs : Dev nD → main_v1.ty.Contents (Elt F)) (c : Dev nD) : main_v2_1.ty.Contents (Elt F) := fun i =>
  xs ⟨(i 1).val / 2048, have h : (i 1).val < 8192 := (i 1).isLt; show _ < 4 by omega⟩
    (ix2 (n0 := 8192) (n1 := 2048) ⟨2048 * c.val + (i 0).val, have h : (i 0).val < 2048 := (i 0).isLt; have := dev_lt c; by omega⟩
      ⟨(i 1).val % 2048, Nat.mod_lt _ (by decide)⟩)

/-- Tile `q` of the gathered rows, as a 1-by-2048-by-256 vector. -/
def aVec (xs : Dev nD → main_v1.ty.Contents (Elt F)) (c : Dev nD) (q : ℕ) : Vec F S1x2048x256 .bf16 := fun i =>
  Xa xs c (ix2 (n0 := 2048) (n1 := 8192) (i 1) ⟨(256 * q + (i 2).val) % 8192, Nat.mod_lt _ (by decide)⟩)
/-- Row tile `q` of the second operand, as a 1-by-256-by-4096 vector. -/
def wVec (w : main_arg1.ty.Contents (Elt F)) (q : ℕ) : Vec F S1x256x4096 .f32 := fun i =>
  w (ix2 (n0 := 8192) (n1 := 4096) ⟨(256 * q + (i 1).val) % 8192, Nat.mod_lt _ (by decide)⟩ (i 2))
/-- The first operand's staging buffer with tile `q` in either slot. -/
def aTile (xs : Dev nD → main_v1.ty.Contents (Elt F)) (c : Dev nD) (q : ℕ) : cc1_scratch1.ty.Contents (Elt F) := fun i =>
  Xa xs c (ix2 (n0 := 2048) (n1 := 8192) (i 1) ⟨(256 * q + (i 2).val) % 8192, Nat.mod_lt _ (by decide)⟩)
/-- The second operand's staging buffer with tile `q` in either slot. -/
def wTile (w : main_arg1.ty.Contents (Elt F)) (q : ℕ) : cc1_scratch2.ty.Contents (Elt F) := fun i =>
  w (ix2 (n0 := 8192) (n1 := 4096) ⟨(256 * q + (i 1).val) % 8192, Nat.mod_lt _ (by decide)⟩ (i 2))

/-! ## What a transfer leaves at its destination -/

/-- Where an entry of a slot of the first operand lies: which slot. -/
theorem aM_emb0 (off : Fin 3 → ℕ) (h) (y : S2048x256.Idx) : ((aM off h).view.emb y 0).val = off 0 := by
  show ((Rect.unit (s := S2x2048x256) off S1x2048x256.size h).emb (Shape.reshapeEquiv _ y) 0).val = _
  rw [Shape.reshapeEquiv_cons_one]
  refine (ValueKit.rect_emb_unit_val (s := S2x2048x256) off S1x2048x256.size h _ 0).trans (Nat.add_zero _)
/-- Where an entry of a slot of the first operand lies: its row. -/
theorem aM_emb1 (off : Fin 3 → ℕ) (h) (y : S2048x256.Idx) : ((aM off h).view.emb y 1).val = off 1 + (y 0).val := by
  show ((Rect.unit (s := S2x2048x256) off S1x2048x256.size h).emb (Shape.reshapeEquiv _ y) 1).val = _
  rw [Shape.reshapeEquiv_cons_one]
  exact ValueKit.rect_emb_unit_val (s := S2x2048x256) off S1x2048x256.size h _ 1
/-- Where an entry of a slot of the first operand lies: its column. -/
theorem aM_emb2 (off : Fin 3 → ℕ) (h) (y : S2048x256.Idx) : ((aM off h).view.emb y 2).val = off 2 + (y 1).val := by
  show ((Rect.unit (s := S2x2048x256) off S1x2048x256.size h).emb (Shape.reshapeEquiv _ y) 2).val = _
  rw [Shape.reshapeEquiv_cons_one]
  exact ValueKit.rect_emb_unit_val (s := S2x2048x256) off S1x2048x256.size h _ 2
/-- Where an entry of a slot of the second operand lies: its row. -/
theorem wM_emb1 (off : Fin 3 → ℕ) (h) (y : S256x4096.Idx) : ((wM off h).view.emb y 1).val = off 1 + (y 0).val := by
  show ((Rect.unit (s := S2x256x4096) off S1x256x4096.size h).emb (Shape.reshapeEquiv _ y) 1).val = _
  rw [Shape.reshapeEquiv_cons_one]
  exact ValueKit.rect_emb_unit_val (s := S2x256x4096) off S1x256x4096.size h _ 1
/-- Where an entry of a slot of the second operand lies: its column. -/
theorem wM_emb2 (off : Fin 3 → ℕ) (h) (y : S256x4096.Idx) : ((wM off h).view.emb y 2).val = off 2 + (y 1).val := by
  show ((Rect.unit (s := S2x256x4096) off S1x256x4096.size h).emb (Shape.reshapeEquiv _ y) 2).val = _
  rw [Shape.reshapeEquiv_cons_one]
  exact ValueKit.rect_emb_unit_val (s := S2x256x4096) off S1x256x4096.size h _ 2

/-- A block of device `c`'s cast operand, landed in column piece `8 c + k` of device `c'`, is the gathered rows of `c'` there. -/
theorem send_lands (xs : Dev nD → main_v1.ty.Contents (Elt F)) (c c' : Dev nD) {k : ℕ} (hk : k < 8) {off off' : Fin 2 → ℕ} (h h')
    (e : off = ![0, 256 * (8 * c.val + k)]) (e' : off' = ![2048 * c'.val, 256 * k]) (fd : main_v2_1.ty.Contents (Elt F))
    (i : S2048x8192.Idx) (hi : i ∈ (gM off h).view.set) :
    (gM off h).view.write (Elt F) fd ((xM off' h').view.read (Elt F) (xs c)) Finset.univ i = Xa xs c' i := by
  subst e e'
  obtain ⟨y, rfl⟩ := View.exists_emb_of_mem_set _ hi
  rw [View.write_emb_of_mem _ _ (Finset.mem_univ _)]
  have g0 := ValueKit.view_emb_slice_whole_unit_val main_v2_1 ![0, 256 * (8 * c.val + k)] S2048x256.size h y 0
  have g1 := ValueKit.view_emb_slice_whole_unit_val main_v2_1 ![0, 256 * (8 * c.val + k)] S2048x256.size h y 1
  have x0 := ValueKit.view_emb_slice_whole_unit_val main_v1 ![2048 * c'.val, 256 * k] S2048x256.size h' y 0
  have x1 := ValueKit.view_emb_slice_whole_unit_val main_v1 ![2048 * c'.val, 256 * k] S2048x256.size h' y 1
  have hy0 : (y 0).val < 2048 := (y 0).isLt
  have hy1 : (y 1).val < 256 := (y 1).isLt
  change _ = 0 + (y 0).val at g0; change _ = 256 * (8 * c.val + k) + (y 1).val at g1
  change _ = 2048 * c'.val + (y 0).val at x0; change _ = 256 * k + (y 1).val at x1
  show xs c _ = xs _ _
  refine congr (congrArg xs (Fin.ext ?_)) ?_
  · show c.val = _ / 2048
    rw [g1]; omega
  · refine (eq_ix2 _).trans (congrArg₂ ix2 (Fin.ext ?_) (Fin.ext ?_))
    · show _ = 2048 * c'.val + _
      rw [g0]; exact x0.trans (by omega)
    · show _ = _ % 2048
      rw [g1]; exact x1.trans (by omega)

/-- Chunk `k` of device `c`'s own strip of the cast operand, landed in slot `s`. -/
theorem own_lands (xs : Dev nD → main_v1.ty.Contents (Elt F)) (c : Dev nD) {k s : ℕ} (hk : k < 8) {off : Fin 3 → ℕ} {off' : Fin 2 → ℕ} (h h')
    (e : off = ![s, 0, 0]) (e' : off' = ![2048 * c.val, 256 * k]) (fd : cc1_scratch1.ty.Contents (Elt F))
    (i : S2x2048x256.Idx) (hi : i ∈ (aM off h).view.set) :
    (aM off h).view.write (Elt F) fd ((xM off' h').view.read (Elt F) (xs c)) Finset.univ i = aTile xs c (8 * c.val + k) i := by
  subst e e'
  obtain ⟨y, rfl⟩ := View.exists_emb_of_mem_set _ hi
  rw [View.write_emb_of_mem _ _ (Finset.mem_univ _)]
  have g1 := aM_emb1 ![s, 0, 0] h y
  have g2 := aM_emb2 ![s, 0, 0] h y
  have x0 := ValueKit.view_emb_slice_whole_unit_val main_v1 ![2048 * c.val, 256 * k] S2048x256.size h' y 0
  have x1 := ValueKit.view_emb_slice_whole_unit_val main_v1 ![2048 * c.val, 256 * k] S2048x256.size h' y 1
  have hy0 : (y 0).val < 2048 := (y 0).isLt
  have hy1 : (y 1).val < 256 := (y 1).isLt
  have hc := dev_lt c
  change _ = 0 + (y 0).val at g1; change _ = 0 + (y 1).val at g2
  change _ = 2048 * c.val + (y 0).val at x0; change _ = 256 * k + (y 1).val at x1
  show xs c _ = xs _ _
  refine congr (congrArg xs (Fin.ext ?_)) ?_
  · show c.val = ((256 * (8 * c.val + k) + _) % 8192) / 2048
    rw [g2]; omega
  · refine (eq_ix2 _).trans (congrArg₂ ix2 (Fin.ext ?_) (Fin.ext ?_))
    · show _ = 2048 * c.val + _
      refine x0.trans (congrArg (2048 * c.val + ·) ?_)
      exact (g1.trans (Nat.zero_add _)).symm
    · show _ = ((256 * (8 * c.val + k) + _) % 8192) % 2048
      rw [g2]; exact x1.trans (by omega)

/-- Piece `q` of the gathered rows, landed in slot `s`. -/
theorem got_lands (X : main_v2_1.ty.Contents (Elt F)) {q s : ℕ} (hq : q < 32) {off : Fin 3 → ℕ} {off' : Fin 2 → ℕ} (h h')
    (e : off = ![s, 0, 0]) (e' : off' = ![0, 256 * q]) (fd : cc1_scratch1.ty.Contents (Elt F))
    (i : S2x2048x256.Idx) (hi : i ∈ (aM off h).view.set) :
    (aM off h).view.write (Elt F) fd ((gM off' h').view.read (Elt F) X) Finset.univ i
      = X (ix2 (n0 := 2048) (n1 := 8192) (i 1) ⟨(256 * q + (i 2).val) % 8192, Nat.mod_lt _ (by decide)⟩) := by
  subst e e'
  obtain ⟨y, rfl⟩ := View.exists_emb_of_mem_set _ hi
  rw [View.write_emb_of_mem _ _ (Finset.mem_univ _)]
  have g1 := aM_emb1 ![s, 0, 0] h y
  have g2 := aM_emb2 ![s, 0, 0] h y
  have x0 := ValueKit.view_emb_slice_whole_unit_val main_v2_1 ![0, 256 * q] S2048x256.size h' y 0
  have x1 := ValueKit.view_emb_slice_whole_unit_val main_v2_1 ![0, 256 * q] S2048x256.size h' y 1
  have hy1 : (y 1).val < 256 := (y 1).isLt
  change _ = 0 + (y 0).val at g1; change _ = 0 + (y 1).val at g2
  change _ = 0 + (y 0).val at x0; change _ = 256 * q + (y 1).val at x1
  show X _ = X _
  refine congrArg X ((eq_ix2 _).trans (congrArg₂ ix2 (Fin.ext ?_) (Fin.ext ?_)))
  · exact x0.trans g1.symm
  · show _ = (256 * q + _) % 8192
    rw [g2]; exact x1.trans (by omega)

/-- Row tile `q` of the second operand, landed in slot `s`. -/
theorem w_lands (w : main_arg1.ty.Contents (Elt F)) {q s : ℕ} (hq : q < 32) {off : Fin 3 → ℕ} {off' : Fin 2 → ℕ} (h h')
    (e : off = ![s, 0, 0]) (e' : off' = ![256 * q, 0]) (fd : cc1_scratch2.ty.Contents (Elt F))
    (i : S2x256x4096.Idx) (hi : i ∈ (wM off h).view.set) :
    (wM off h).view.write (Elt F) fd ((bM off' h').view.read (Elt F) w) Finset.univ i = wTile w q i := by
  subst e e'
  obtain ⟨y, rfl⟩ := View.exists_emb_of_mem_set _ hi
  rw [View.write_emb_of_mem _ _ (Finset.mem_univ _)]
  have g1 := wM_emb1 ![s, 0, 0] h y
  have g2 := wM_emb2 ![s, 0, 0] h y
  have x0 := ValueKit.view_emb_slice_whole_unit_val main_arg1 ![256 * q, 0] S256x4096.size h' y 0
  have x1 := ValueKit.view_emb_slice_whole_unit_val main_arg1 ![256 * q, 0] S256x4096.size h' y 1
  have hy0 : (y 0).val < 256 := (y 0).isLt
  change _ = 0 + (y 0).val at g1; change _ = 0 + (y 1).val at g2
  change _ = 256 * q + (y 0).val at x0; change _ = 0 + (y 1).val at x1
  show w _ = w _
  refine congrArg w ((eq_ix2 _).trans (congrArg₂ ix2 (Fin.ext ?_) (Fin.ext ?_)))
  · show _ = (256 * q + _) % 8192
    rw [g1]; exact x0.trans (by omega)
  · exact x1.trans g2.symm

/-- A load of a slot of the first staging buffer holding tile `q`. -/
theorem a_load (xs : Dev nD → main_v1.ty.Contents (Elt F)) (c : Dev nD) (q s : ℕ) {off : Fin 3 → ℕ} (h) (e : off = ![s, 0, 0]) :
    (Memref.whole cc1_scratch1).view.readAt (Elt F) (Rect.unit (s := S2x2048x256) off S1x2048x256.size h).toLoadRect (aTile xs c q) = aVec xs c q := by
  subst e
  refine funext fun y => ?_
  have g1 := ValueKit.rect_emb_unit_val (s := S2x2048x256) ![s, 0, 0] S1x2048x256.size h y 1
  have g2 := ValueKit.rect_emb_unit_val (s := S2x2048x256) ![s, 0, 0] S1x2048x256.size h y 2
  change _ = 0 + (y 1).val at g1; change _ = 0 + (y 2).val at g2
  show Xa xs c _ = Xa xs c _
  refine congrArg _ (congrArg₂ ix2 (Fin.ext ?_) (Fin.ext ?_))
  · exact g1.trans (Nat.zero_add _)
  · show (256 * q + _) % 8192 = (256 * q + _) % 8192
    exact congrArg (fun z => (256 * q + z) % 8192) (g2.trans (Nat.zero_add _))

/-- A load of a slot of the second staging buffer holding row tile `q`. -/
theorem w_load (w : main_arg1.ty.Contents (Elt F)) (q s : ℕ) {off : Fin 3 → ℕ} (h) (e : off = ![s, 0, 0]) :
    (Memref.whole cc1_scratch2).view.readAt (Elt F) (Rect.unit (s := S2x256x4096) off S1x256x4096.size h).toLoadRect (wTile w q) = wVec w q := by
  subst e
  refine funext fun y => ?_
  have g1 := ValueKit.rect_emb_unit_val (s := S2x256x4096) ![s, 0, 0] S1x256x4096.size h y 1
  have g2 := ValueKit.rect_emb_unit_val (s := S2x256x4096) ![s, 0, 0] S1x256x4096.size h y 2
  change _ = 0 + (y 1).val at g1; change _ = 0 + (y 2).val at g2
  show w _ = w _
  refine congrArg _ (congrArg₂ ix2 (Fin.ext ?_) (Fin.ext ?_))
  · show (256 * q + _) % 8192 = (256 * q + _) % 8192
    exact congrArg (fun z => (256 * q + z) % 8192) (g1.trans (Nat.zero_add _))
  · exact g2.trans (Nat.zero_add _)

/-- A slot's own rectangle of the first staging buffer, as a load names it. -/
theorem a_load_set {s : ℕ} {off : Fin 3 → ℕ} (h) (e : off = ![s, 0, 0]) :
    (Memref.whole cc1_scratch1).view.setOn (Rect.unit (s := S2x2048x256) off S1x2048x256.size h).toLoadRect.set ⊆ aSet s := by
  refine le_of_eq ((aM_set h e).symm.trans ?_).symm
  exact (View.set_reshape _ _).trans ((View.set_slice_whole cc1_scratch1 _).trans (by rw [View.setOn, View.emb_whole]; exact Finset.map_refl.symm))
/-- A slot's own rectangle of the second staging buffer, as a load names it. -/
theorem w_load_set {s : ℕ} {off : Fin 3 → ℕ} (h) (e : off = ![s, 0, 0]) :
    (Memref.whole cc1_scratch2).view.setOn (Rect.unit (s := S2x256x4096) off S1x256x4096.size h).toLoadRect.set ⊆ wSet s := by
  refine le_of_eq ((wM_set h e).symm.trans ?_).symm
  exact (View.set_reshape _ _).trans ((View.set_slice_whole cc1_scratch2 _).trans (by rw [View.setOn, View.emb_whole]; exact Finset.map_refl.symm))

end Cert.KernelIdeal.Hand

end
-- ==== Proof.Sched.lean ====
/- The fused call's protocol as a schedule of rounds: for each semaphore who credits it, by how much and
   what the credit hands over, the levels, and what each core owes at launch. -/
module

public import proofs.«01_k».proof.Proof.Geom
public import proofs.«01_k».proof.Proof.Gen.KernelIdeal.Loops
public import Idealize.ShloMosaic.Lib.Rounds
public import Idealize.ShloMosaic.Lib.Transfers
public import Idealize.ShloMosaic.Lib.Pipeline.Kit
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The ghost state of the schedule. -/
abbrev UB : Type := URounds (GSem nD τ sig) ℕ
/-- The pipeline's rounds, the talk's rounds, and the local transfers' counters. -/
abbrev UU : Type := UR sig nD τ × (UB × Counters)

local notation "𝕄" => MT nD τ sig Unit (Elt F) ℕ UU ℕ

/-- Where the ghost state of the stagings lies. -/
abbrev EP : Emb (UR sig nD τ) (MT nD τ sig Unit (Elt F) ℕ UU ℕ) := embL
/-- The talk's rounds library: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
/-- The ghost state of the schedule lies in the user part. -/
instance ER_landsIn : (ER : Emb UB 𝕄).LandsIn (upEmb : UEmb _ 𝕄) := by unfold ER; infer_instance
/-- The local transfers' counters. -/
abbrev EC : UEmb Counters (MT nD τ sig Unit (Elt F) ℕ UU ℕ) := countersEmb

/-- No variants are needed: nothing loops without bound. -/
abbrev 𝒱₀ : Variants := Variants.none

/-! ## Cells and pieces -/

/-- The barrier semaphore of a device. -/
abbrev barCell (c : Dev nD) : GSem nD τ sig := ((c : Thread nD τ), .reg barS)
/-- The semaphore that tells device `c` its transfer `j` has been read out. -/
abbrev sendCell (c : Dev nD) (j : Fin 24) : GSem nD τ sig := ((c : Thread nD τ), .dma (sendSem j))
/-- The semaphore that tells device `c` arrival `j` has landed. -/
abbrev recvCell (c : Dev nD) (j : Fin 24) : GSem nD τ sig := ((c : Thread nD τ), .dma (recvSem j))

/-- What one piece credits on arrival. -/
abbrev N : ℕ := (gM ![0, 0] (by decide)).view.dmaCredit
/-- A transfer credits something. -/
theorem N_pos : 0 < N := View.dmaCredit_pos _ (by decide)

/-- A whole buffer of device `c` at share `q`. -/
abbrev buf (c : Dev nD) (b : Ref sig .tc) (q : PosShare TreeShare) (f : b.ty.Contents (Elt F)) : sProp 𝕄 :=
  ((c : Thread nD τ).loc b) ↦{q} f
/-- Some elements of a buffer of device `c`. -/
abbrev part (c : Dev nD) (b : Ref sig .tc) (S : Finset b.ty.shape.Idx) (q : PosShare TreeShare) (f : b.ty.Contents (Elt F)) : sProp 𝕄 :=
  ((c : Thread nD τ).loc b) ↦[S]{q} f

/-- The read share of transfer `i`. -/
abbrev tok (i : ℕ) : PosShare TreeShare := Transfers.shareTokN fullShare i

/-- The block of the cast operand that transfer `j` of device `c` reads. -/
def srcSet (c : Dev nD) (j : ℕ) : Finset S8192x2048.Idx :=
  Finset.univ.filter fun i => (i 0).val / 2048 = (tgt c j).val ∧ (i 1).val / 256 = kc j

/-- The piece of the rounded operand that transfer `j` reads. -/
theorem xM_set {off : Fin 2 → ℕ} (h) {c : Dev nD} {j : ℕ} (e : off = ![2048 * (tgt c j).val, 256 * kc j]) :
    (xM off h).view.set = srcSet c j := by
  subst e
  refine Finset.ext fun i => ?_
  refine (ValueKit.mem_set_slice_whole_iff main_v1 _ i (Rect.mem_set_unit)).trans ?_
  refine ValueKit.forall_fin_iff_conj.trans ?_
  rw [srcSet, Finset.mem_filter]
  show (2048 * (tgt c j).val ≤ (i 0).val ∧ (i 0).val < 2048 * (tgt c j).val + 2048)
    ∧ (256 * kc j ≤ (i 1).val ∧ (i 1).val < 256 * kc j + 256) ↔ _
  simp only [Finset.mem_univ, true_and]; omega

variable (xs : Dev nD → main_v1.ty.Contents (Elt F)) (gs : Dev nD → main_v2_1.ty.Contents (Elt F))

/-- The place on device `c` that transfer `j` lands in, as launched, with the receipt that its landing cell is open. -/
def slotOf (c : Dev nD) (j : Fin 24) : sProp 𝕄 :=
  iprop(part c main_v2_1 (colSet (qn c (8 + j.val))) fullShare (gs c) ∗ reached ER (recvCell c j) 0)

/-- The signal from the device `d` places behind `c` hands over its places that `c` writes. -/
def barPay (c : Dev nD) (d : ℕ) : sProp 𝕄 :=
  bigSep (Finset.univ.filter fun j : Fin 24 => 4 - dd j = d) fun j => slotOf gs (tgt c j) j
/-- A landing hands the receiver its piece at the gathered rows. -/
def recvPay (c : Dev nD) (j : Fin 24) : sProp 𝕄 := part c main_v2_1 (colSet (qn c (8 + j.val))) fullShare (Xa xs c)
/-- A departure hands the sender its source block back. -/
def sendPay (c : Dev nD) (j : Fin 24) : sProp 𝕄 := part c main_v1 (srcSet c j) (tok j) (xs c)

/-! ## The schedule -/

open Classical in
/-- One round: three signals on each barrier cell, one landing on each receive cell, one departure on each send cell. -/
def talkRd : Rounds.Schedule (GSem nD τ sig) ℕ 𝕄 where
  duties g r :=
    if r = 0 ∧ g.1.2 = .tc then
      (if g.2 = .reg barS then {1, 2, 3}
      else if ∃ j, g.2 = .dma (sendSem j) ∨ g.2 = .dma (recvSem j) then {0} else ∅)
    else ∅
  unitless _ := False
  amount g _ _ := if g.2 = .reg barS then 1 else N
  payload g _ d :=
    if g.2 = .reg barS then barPay gs g.1.1 d
    else if h : ∃ j, g.2 = .dma (recvSem j) then recvPay xs g.1.1 h.choose
    else if h : ∃ j, g.2 = .dma (sendSem j) then sendPay xs g.1.1 h.choose
    else iprop(emp)
  amount_pos g _ _ _ := by
    by_cases h : g.2 = .reg barS
    · rw [if_pos h]; exact Nat.one_pos
    · rw [if_neg h]; exact N_pos

/-- A place to write to may be kept in the schedule. -/
instance slotOf_storable (c : Dev nD) (j : Fin 24) : BI.Storable (upEmb : UEmb _ 𝕄) (slotOf gs c j) := by
  unfold slotOf; infer_instance

/-- Every payload may be kept in the schedule. -/
instance talkRd_payload_storable (g : GSem nD τ sig) (r : ℕ) (d : ℕ) :
    BI.Storable (upEmb : UEmb _ 𝕄) ((talkRd (F := F) xs gs).payload g r d) := by
  unfold talkRd barPay recvPay sendPay
  dsimp only
  (repeat' split) <;> infer_instance

section Sched

variable (c : Dev nD) (j : Fin 24)

/-- The barrier semaphore is no semaphore of copies. -/
theorem dma_ne_bar (s : DmaSem sig) : (SemLoc.dma s : SemLoc sig) ≠ .reg barS := fun h => by cases h
/-- A send semaphore is no receive semaphore. -/
theorem send_ne_recv (j k : Fin 24) : (SemLoc.dma (sendSem j) : SemLoc sig) ≠ .dma (recvSem k) := by
  intro h
  have h' : sendSem j = recvSem k := by injection h
  have h' := congrArg Fin.val h'
  simp only [sendSem, recvSem] at h'
  have := kc_lt j; have := dd_lt j; omega

/-- The transfers come from one, two and three devices behind. -/
theorem fwd_image : (Finset.univ : Finset (Fin 24)).image (fun j : Fin 24 => 4 - dd j) = {1, 2, 3} := by decide

/-- Three duties on the barrier: one for each other device. -/
theorem duties_bar : (talkRd (F := F) xs gs).duties (barCell c) 0 = {1, 2, 3} := by
  dsimp only [talkRd]; rw [if_pos ⟨rfl, rfl⟩, if_pos rfl]
/-- One duty on a send semaphore. -/
theorem duties_send : (talkRd (F := F) xs gs).duties (sendCell c j) 0 = {0} := by
  dsimp only [talkRd]; rw [if_pos ⟨rfl, rfl⟩, if_neg (dma_ne_bar _), if_pos ⟨j, .inl rfl⟩]
/-- One duty on a receive semaphore. -/
theorem duties_recv : (talkRd (F := F) xs gs).duties (recvCell c j) 0 = {0} := by
  dsimp only [talkRd]; rw [if_pos ⟨rfl, rfl⟩, if_neg (dma_ne_bar _), if_pos ⟨j, .inr rfl⟩]
/-- There is one round only. -/
theorem duties_later (g : GSem nD τ sig) : ∀ r, 1 ≤ r → (talkRd (F := F) xs gs).duties g r = ∅ :=
  fun r hr => by dsimp only [talkRd]; rw [if_neg (fun h => by omega)]

/-- A barrier signal counts one. -/
theorem amount_bar (d : ℕ) : (talkRd (F := F) xs gs).amount (barCell c) 0 d = 1 := by dsimp only [talkRd]; exact if_pos rfl
/-- A send credits the whole transfer. -/
theorem amount_send (d : ℕ) : (talkRd (F := F) xs gs).amount (sendCell c j) 0 d = N := by dsimp only [talkRd]; exact if_neg (dma_ne_bar _)
/-- A landing credits the whole transfer. -/
theorem amount_recv (d : ℕ) : (talkRd (F := F) xs gs).amount (recvCell c j) 0 d = N := by dsimp only [talkRd]; exact if_neg (dma_ne_bar _)

/-- The barrier waits for three. -/
theorem expect_bar : (talkRd (F := F) xs gs).expect (barCell c) 0 = 3 := by
  unfold Schedule.expect Schedule.amountOf
  rw [duties_bar, Finset.sum_congr rfl fun d _ => amount_bar xs gs c d]; decide
/-- A send wait takes the whole transfer. -/
theorem expect_send : (talkRd (F := F) xs gs).expect (sendCell c j) 0 = N := by
  unfold Schedule.expect Schedule.amountOf; rw [duties_send, Finset.sum_singleton, amount_send]
/-- A receive wait takes the whole transfer. -/
theorem expect_recv : (talkRd (F := F) xs gs).expect (recvCell c j) 0 = N := by
  unfold Schedule.expect Schedule.amountOf; rw [duties_recv, Finset.sum_singleton, amount_recv]

/-- A barrier signal hands over the places to write to. -/
theorem payload_bar (d : ℕ) : (talkRd (F := F) xs gs).payload (barCell c) 0 d = barPay gs c d := by dsimp only [talkRd]; exact if_pos rfl
/-- A landing hands over the piece with the contents sent. -/
theorem payload_recv (d : ℕ) : (talkRd (F := F) xs gs).payload (recvCell c j) 0 d = recvPay xs c j := by
  have h : ∃ k, (recvCell c j).2 = .dma (recvSem k) := ⟨j, rfl⟩
  dsimp only [talkRd]
  rw [if_neg (dma_ne_bar _), dif_pos h]
  have e := h.choose_spec
  have e' : recvSem j = recvSem h.choose := by injection e
  rw [← recvSem_inj e']
/-- A send gives back the fraction it read with. -/
theorem payload_send (d : ℕ) : (talkRd (F := F) xs gs).payload (sendCell c j) 0 d = sendPay xs c j := by
  have h : ∃ k, (sendCell c j).2 = .dma (sendSem k) := ⟨j, rfl⟩
  dsimp only [talkRd]
  rw [if_neg (dma_ne_bar _), dif_neg (fun ⟨k, hk⟩ => send_ne_recv j k hk), dif_pos h]
  have e := h.choose_spec
  have e' : sendSem j = sendSem h.choose := by injection e
  rw [← sendSem_inj e']

/-- A send wait takes the fraction back. -/
theorem rest_send : bigSep ((talkRd (F := F) xs gs).duties (sendCell c j) 0 \ ∅) (fun u => (talkRd (F := F) xs gs).payload (sendCell c j) 0 u) = sendPay xs c j := by
  rw [Finset.sdiff_empty, duties_send, bigSep_singleton, payload_send]
/-- A receive wait takes the piece received. -/
theorem rest_recv : bigSep ((talkRd (F := F) xs gs).duties (recvCell c j) 0 \ ∅) (fun u => (talkRd (F := F) xs gs).payload (recvCell c j) 0 u) = recvPay xs c j := by
  rw [Finset.sdiff_empty, duties_recv, bigSep_singleton, payload_recv]
/-- The three signals together hand over every place the core writes. -/
theorem rest_bar : bigSep ((talkRd (F := F) xs gs).duties (barCell c) 0 \ ∅) (fun d => (talkRd (F := F) xs gs).payload (barCell c) 0 d)
    = bigSep Finset.univ fun j : Fin 24 => slotOf gs (tgt c j) j := by
  rw [Finset.sdiff_empty, duties_bar, bigSep_congr fun d _ => payload_bar xs gs c d]
  unfold barPay
  rw [bigSep_fiberwise (Finset.univ : Finset (Fin 24)) (fun j : Fin 24 => 4 - dd j), fwd_image]

end Sched

/-! ## What each core owes at launch; the levels -/

/-- What the transfers from the `n`-th on still owe the receivers. -/
def Ofrom (c : Dev nD) (n : ℕ) : CellTallies nD τ sig Unit :=
  ∑ j ∈ Finset.univ.filter (fun j : Fin 24 => n ≤ j.val), tallyAt (recvCell (tgt c j) j) () N

/-- At launch: every transfer's landing, and a signal to each other device. -/
def O₀ (c : Dev nD) : CellTallies nD τ sig Unit :=
  Ofrom c 0 + tallyAt (barCell (fwd c 3)) () 1 + tallyAt (barCell (fwd c 2)) () 1 + tallyAt (barCell (fwd c 1)) () 1

/-- What is owed before transfer `j` is what is owed after it and the credit of its landing. -/
theorem Ofrom_succ (c : Dev nD) (j : Fin 24) : Ofrom c j.val = Ofrom c (j.val + 1) + tallyAt (recvCell (tgt c j) j) () N := by
  unfold Ofrom
  rw [show (Finset.univ.filter fun i : Fin 24 => j.val ≤ i.val) = insert j (Finset.univ.filter fun i : Fin 24 => j.val + 1 ≤ i.val) from by
    ext i; simp only [Finset.mem_filter, Finset.mem_univ, true_and, Finset.mem_insert, Fin.ext_iff]; omega,
    Finset.sum_insert (by simp), add_comm]
/-- After 24 transfers nothing is owed. -/
theorem Ofrom_last (c : Dev nD) : Ofrom c 24 = 0 := by
  unfold Ofrom
  rw [Finset.filter_false_of_mem fun j _ => by omega, Finset.sum_empty]

/-- The levels of a semaphore: those of the cores have one. -/
def L (g : GSem nD τ sig) : Finset Unit := if g.1.2 = .tc then {()} else ∅
open Classical in
/-- Barrier cells at 1, receive cells at 2, the rest at 0. -/
def lv (g : GSem nD τ sig) (_ : Unit) : ℕ := if g.2 = .reg barS then 1 else if ∃ j, g.2 = .dma (recvSem j) then 2 else 0

/-- Semaphores elsewhere have no level. -/
theorem L_of_ne (g : GSem nD τ sig) (h : g.1.2 ≠ .tc) : L g = ∅ := if_neg h
/-- A core's semaphore has its level. -/
theorem L_tc (c : Dev nD) (sm : SemLoc sig) : L ((c : Thread nD τ), sm) = {()} := if_pos rfl

/-- What is owed is owed to receive semaphores of the targets. -/
theorem Ofrom_pos (c : Dev nD) (n : ℕ) (g : GSem nD τ sig) (u : Unit) (h : 0 < Ofrom c n g u) : ∃ j : Fin 24, g = recvCell (tgt c j) j := by
  unfold Ofrom at h
  rw [Finset.sum_apply, Finsupp.finset_sum_apply] at h
  obtain ⟨j, -, hj⟩ := Finset.exists_ne_zero_of_sum_ne_zero (Nat.pos_iff_ne_zero.mp h)
  rw [tallyAt_apply] at hj
  by_cases e : g = recvCell (tgt c j) j ∧ u = ()
  · exact ⟨j, e.1⟩
  · rw [if_neg e] at hj; exact absurd rfl hj

/-- The barrier lies below everything that is owed. -/
theorem mayWait_bar (c : Dev nD) :
    (levAts L lv : sProp 𝕄) ⊢ MayWait (c : Thread nD τ) (.reg barS) () (Ofrom c 0) :=
  MayOwe.of_cut (L := L) (lev := lv) 1 (fun p hp => by rw [Finset.mem_singleton.mp hp, L_tc]; exact Finset.mem_singleton_self _)
    (fun g u hg => by
      obtain ⟨j, rfl⟩ := Ofrom_pos c 0 g u hg
      rw [L_tc]; exact Finset.mem_singleton_self _)
    (fun p hp => by rw [Finset.mem_singleton.mp hp]; dsimp only [lv]; rw [if_pos rfl])
    (fun g u hg => by
      obtain ⟨j, rfl⟩ := Ofrom_pos c 0 g u hg
      dsimp only [lv]; rw [if_neg (dma_ne_bar _), if_pos ⟨j, rfl⟩]; decide)

end Cert.KernelIdeal.Hand

end
-- ==== Proof.Send.lean ====
/- The sender's side: one transfer's step, stated once for all 24, and the parts of the kernel that are
   sequences of it. -/
module

public import proofs.«01_k».proof.Proof.Sched

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → main_v1.ty.Contents (Elt F)) (gs : Dev nD → main_v2_1.ty.Contents (Elt F))

/-! ## What every device knows -/

/-- The barrier cells, open from launch. -/
def barCells : Finset (GSem nD τ sig) := Finset.univ.image fun c : Dev nD => barCell c
/-- The send and receive cells, dormant at launch. -/
def dmaCells : Finset (GSem nD τ sig) :=
  (Finset.univ.image fun p : Dev nD × Fin 24 => sendCell p.1 p.2) ∪ Finset.univ.image fun p : Dev nD × Fin 24 => recvCell p.1 p.2

/-- Every cell's invariant, at the names `K`; every barrier cell has begun. -/
def Ctx (K : GSem nD τ sig → ℕ) : sProp 𝕄 :=
  iprop(bigSep (barCells ∪ dmaCells) (fun g => cellInv ER (talkRd xs gs) (K g) g) ∗ bigSep barCells (fun g => reached ER g 0))

/-- The invariants may be used again and again. -/
instance Ctx_persistent (K : GSem nD τ sig → ℕ) : BI.Persistent (Ctx (F := F) xs gs K) := by unfold Ctx; infer_instance

/-- Among the invariants is that of the barrier. -/
theorem Ctx_bar (K : GSem nD τ sig → ℕ) (c : Dev nD) :
    Ctx xs gs K ⊢ (iprop(cellInv ER (talkRd xs gs) (K (barCell c)) (barCell c) ∗ reached ER (barCell c) 0) : sProp 𝕄) := by
  have h : barCell c ∈ barCells := Finset.mem_image_of_mem _ (Finset.mem_univ c)
  unfold Ctx
  exact BIClass.sep_mono (bigSep_elim (Finset.mem_union_left _ h)) (bigSep_elim h)
/-- Among the invariants is that of each send semaphore. -/
theorem Ctx_send (K : GSem nD τ sig → ℕ) (c : Dev nD) (j : Fin 24) :
    Ctx xs gs K ⊢ (cellInv ER (talkRd xs gs) (K (sendCell c j)) (sendCell c j) : sProp 𝕄) := by
  have h : sendCell c j ∈ dmaCells :=
    Finset.mem_union_left _ (Finset.mem_image_of_mem (fun p : Dev nD × Fin 24 => sendCell p.1 p.2) (Finset.mem_univ (c, j)))
  unfold Ctx
  exact sep_elim_left.trans (bigSep_elim (Finset.mem_union_right _ h))
/-- Among the invariants is that of each receive semaphore. -/
theorem Ctx_recv (K : GSem nD τ sig → ℕ) (c : Dev nD) (j : Fin 24) :
    Ctx xs gs K ⊢ (cellInv ER (talkRd xs gs) (K (recvCell c j)) (recvCell c j) : sProp 𝕄) := by
  have h : recvCell c j ∈ dmaCells :=
    Finset.mem_union_right _ (Finset.mem_image_of_mem (fun p : Dev nD × Fin 24 => recvCell p.1 p.2) (Finset.mem_univ (c, j)))
  unfold Ctx
  exact sep_elim_left.trans (bigSep_elim (Finset.mem_union_right _ h))

/-! ## The 24 transfers, in order -/

/-- A conjunction over the transfers from the `n`-th on: the first, and the rest. -/
theorem todo_step (Φ : Fin 24 → sProp 𝕄) (j : Fin 24) :
    bigSep (Finset.univ.filter fun i : Fin 24 => j.val ≤ i.val) Φ
      = iprop(Φ j ∗ bigSep (Finset.univ.filter fun i : Fin 24 => j.val + 1 ≤ i.val) Φ) := by
  rw [show (Finset.univ.filter fun i : Fin 24 => j.val ≤ i.val) = insert j (Finset.univ.filter fun i : Fin 24 => j.val + 1 ≤ i.val) from by
    ext i; simp only [Finset.mem_filter, Finset.mem_univ, true_and, Finset.mem_insert, Fin.ext_iff]; omega]
  exact bigSep_insert (by simp)
/-- A conjunction over the transfers before the `n+1`-st: the last, and the ones before. -/
theorem done_step (Φ : Fin 24 → sProp 𝕄) (j : Fin 24) :
    bigSep (Finset.univ.filter fun i : Fin 24 => i.val < j.val + 1) Φ
      = iprop(Φ j ∗ bigSep (Finset.univ.filter fun i : Fin 24 => i.val < j.val) Φ) := by
  rw [show (Finset.univ.filter fun i : Fin 24 => i.val < j.val + 1) = insert j (Finset.univ.filter fun i : Fin 24 => i.val < j.val) from by
    ext i; simp only [Finset.mem_filter, Finset.mem_univ, true_and, Finset.mem_insert, Fin.ext_iff]; omega]
  exact bigSep_insert (by simp)
/-- At the start all 24 are to do. -/
theorem todo_zero (Φ : Fin 24 → sProp 𝕄) : bigSep (Finset.univ.filter fun i : Fin 24 => 0 ≤ i.val) Φ = bigSep Finset.univ Φ := by
  rw [Finset.filter_true_of_mem fun i _ => Nat.zero_le _]
/-- At the end none is to do. -/
theorem todo_last (Φ : Fin 24 → sProp 𝕄) : bigSep (Finset.univ.filter fun i : Fin 24 => 24 ≤ i.val) Φ = BI.emp := by
  rw [Finset.filter_false_of_mem fun i _ => by omega, bigSep_empty]
/-- At the start none is done. -/
theorem done_zero (Φ : Fin 24 → sProp 𝕄) : bigSep (Finset.univ.filter fun i : Fin 24 => i.val < 0) Φ = BI.emp := by
  rw [Finset.filter_false_of_mem fun i _ => by omega, bigSep_empty]
/-- At the end all 24 are done. -/
theorem done_last (Φ : Fin 24 → sProp 𝕄) : bigSep (Finset.univ.filter fun i : Fin 24 => i.val < 24) Φ = bigSep Finset.univ Φ := by
  rw [Finset.filter_true_of_mem fun i _ => i.isLt]

/-- What transfer `j` needs before it starts: both duties' tokens, its place on the receiver, its read share of the source. -/
def sTodo (c : Dev nD) (j : Fin 24) : sProp 𝕄 :=
  iprop(dutyTok ER (recvCell (tgt c j) j) 0 0 ∗ dutyTok ER (sendCell c j) 0 0 ∗ reached ER (sendCell c j) 0
    ∗ slotOf gs (tgt c j) j ∗ part c main_v1 Finset.univ (tok j) (xs c))
/-- What it leaves on the sender until its departure is waited for. -/
def sDone (c : Dev nD) (j : Fin 24) : sProp 𝕄 :=
  iprop(cred (tallyAt (sendCell c j) () N) ∗ part c main_v1 (Finset.univ \ srcSet c j) (tok j) (xs c))
/-- The sender before transfer `n`. -/
def SendSt (c : Dev nD) (n : ℕ) : sProp 𝕄 :=
  iprop(bigSep (Finset.univ.filter fun j : Fin 24 => n ≤ j.val) (sTodo xs gs c)
    ∗ bigSep (Finset.univ.filter fun j : Fin 24 => j.val < n) (sDone xs c)
    ∗ ∃ W, owes (c : Thread nD τ) (Ofrom c n) W)

/-- One transfer: the piece of device `c`'s cast operand that device `tgt c j` multiplies. -/
theorem send_step (K : GSem nD τ sig → ℕ) (c : Dev nD) (j : Fin 24) (n m : ℕ) {α : Type} {Q : α → sProp 𝕄}
    {os od : Fin 2 → ℕ} {hs hd} {p : Dev nD} {sS sR : DmaSem sig}
    {hws hwd hty} {k : PUnit → Prog (TpuEff nD τ sig (Elt F) Λ₀ .tc) α}
    (en : n = j.val := by rfl) (em : m = j.val + 1 := by rfl)
    (es : os = ![2048 * (tgt c j).val, 256 * kc j] := by decide +revert)
    (ed : od = ![0, 256 * (8 * c.val + kc j)] := by decide +revert)
    (ep : p = tgt c j := by decide +revert)
    (eS : sS = sendSem j := by exact Fin.ext (sem_cell2 _ _ _ _))
    (eR : sR = recvSem j := by exact Fin.ext (sem_cell2 _ _ _ _)) :
    Ctx xs gs K
      ⊢ iprop(SendSt xs gs c n -∗ (SendSt xs gs c m -∗ wp frame (wpE (defs₀ (F := F)) 𝒱₀ c none) Set.univ (k ⟨⟩) Q)
        -∗ wp frame (wpE (defs₀ (F := F)) 𝒱₀ c none) Set.univ
          (.op (.enqueueDma (xM os hs) (.remote (Dev.tc p) (gM od hd) (.dma sS)) (.dma sR) hws hwd hty) k) Q) := by
  subst ep eS eR en em
  unfold SendSt
  rw [todo_step, done_step]
  have hset := xM_set hs es
  have hgs : (gM od hd).view.set = colSet (qn (tgt c j) (8 + j.val)) := gM_set hd (by rw [qn_tgt, ed])
  iintro #HC ⟨⟨Hj, Htodo⟩, Hdone, ⟨%W, HO⟩⟩ Hk
  unfold sTodo slotOf
  icases Hj with ⟨HtR, HtS, #HrS, ⟨Hdst, #HrR⟩, Hx⟩
  ihave #HIS := (Ctx_send xs gs K c j) $$ HC
  ihave #HIR := (Ctx_recv xs gs K (tgt c j) j) $$ HC
  ihave Hx := (pointsTo_split_subset (Finset.subset_univ (srcSet c j))).1 $$ Hx
  icases Hx with ⟨Hx, Hrest⟩
  iapply (Rounds.wp_send_pointsTo 𝒱₀ ER (talkRd xs gs) (c : Thread nD τ) none (c' := (tgt c j : Thread nD τ)) (src := xM os hs) (dst := gM od hd)
      (sS := .dma (sendSem j)) (sem := .dma (recvSem j)) (q := tok j) (fs := xs c) (κ₁ := K (sendCell c j)) (κ₂ := K (recvCell (tgt c j) j))
      (r₁ := 0) (r₂ := 0) (d₁ := 0) (d₂ := 0) (fd := gs (tgt c j))
      (by rw [duties_send]; exact Finset.mem_singleton_self _) (by rw [duties_recv]; exact Finset.mem_singleton_self _)
      () () N rfl (amount_send xs gs c j 0) (amount_recv xs gs (tgt c j) j 0) (Ofrom c (j.val + 1)) (Ofrom_succ c j) (W := W)
      (by rw [payload_send, hset]; exact BI.Entails.refl _)
      (by
        rw [payload_recv]; unfold recvPay
        refine Entails.of_eq ((pointsTo_congr fun i hi => send_lands xs c (tgt c j) (kc_lt j) hd hs ed es _ i hi).trans ?_)
        rw [hgs])) $$ [Hx Hdst HO HtS HtR]
  · isplitr; · iexact HIS
    isplitr; · iexact HIR
    isplitl [Hx]; · rw [hset]; iexact Hx
    isplitl [Hdst]; · rw [hgs]; iexact Hdst
    isplitl [HO]; · iexact HO
    isplitl [HtS]; · iexact HtS
    isplitr; · iexact HrS
    isplitl [HtR]; · iexact HtR
    iexact HrR
  iintro ⟨Hc, HO⟩
  iapply Hk
  isplitl [Htodo]; · iexact Htodo
  isplitl [Hc Hrest Hdone]
  · isplitl [Hc Hrest]
    · unfold sDone; isplitl [Hc]; · iexact Hc
      iexact Hrest
    · iexact Hdone
  iexists W; iexact HO

/-- A part of the kernel on the launch's own buffers and semaphores. -/
@[reducible] def onBufs {α : Type 1}
    (f : (a0 : Memref sig .tc .hbm S8192x2048 .bf16) → a0.IsWhole → (a1 : Memref sig .tc .hbm S8192x4096 .f32) → a1.IsWhole
      → (a2 : Memref sig .tc .hbm S2048x4096 .f32) → a2.IsWhole → (a3 : Memref sig .tc .hbm S2048x8192 .bf16) → a3.IsWhole
      → (a4 : Memref sig .tc .vmem S2048x4096 .f32) → a4.IsWhole → (a5 : Memref sig .tc .vmem S2x2048x256 .bf16) → a5.IsWhole
      → (a6 : Memref sig .tc .vmem S2x256x4096 .f32) → a6.IsWhole
      → DmaSems sig S2 → DmaSems sig S2 → DmaSems sig S3x8 → DmaSems sig S3x8 → α) : α :=
  f (Memref.whole main_v1) (Memref.isWhole_whole _) (Memref.whole main_arg1) (Memref.isWhole_whole _)
    (Memref.whole main_v2_0) (Memref.isWhole_whole _) (Memref.whole main_v2_1) (Memref.isWhole_whole _)
    (Memref.whole cc1_scratch0) (Memref.isWhole_whole _) (Memref.whole cc1_scratch1) (Memref.isWhole_whole _)
    (Memref.whole cc1_scratch2) (Memref.isWhole_whole _) cc1_scratch3 cc1_scratch4 cc1_scratch5 cc1_scratch6

/-! ## The departures waited for -/

/-- What is left to do for transfer `j`'s departure, and what is in hand once it is done. -/
def wTodo (c : Dev nD) (j : Fin 24) : sProp 𝕄 := iprop(atPos ER (sendCell c j) 0 ∅ 0 ∗ sDone xs c j)
/-- Transfer `j` has been read out and its fraction is back. -/
def wDone (c : Dev nD) (j : Fin 24) : sProp 𝕄 := iprop(atPos ER (sendCell c j) 1 ∅ 0 ∗ part c main_v1 Finset.univ (tok j) (xs c))
/-- The sender before the wait for departure `n`. -/
def WaitSt (c : Dev nD) (n : ℕ) : sProp 𝕄 :=
  iprop(bigSep (Finset.univ.filter fun j : Fin 24 => n ≤ j.val) (wTodo xs c)
    ∗ bigSep (Finset.univ.filter fun j : Fin 24 => j.val < n) (wDone xs c)
    ∗ ∃ W, owes (c : Thread nD τ) (0 : CellTallies nD τ sig Unit) W)

/-- The block and the rest of the buffer, joined again. -/
theorem src_join (c : Dev nD) (j : Fin 24) :
    iprop(part c main_v1 (srcSet c j) (tok j) (xs c) ∗ part c main_v1 (Finset.univ \ srcSet c j) (tok j) (xs c))
      ⊢ (part c main_v1 Finset.univ (tok j) (xs c) : sProp 𝕄) :=
  (pointsTo_split_subset (Finset.subset_univ _)).2

/-- A block of the cast operand counts what a column piece of the gathered one does. -/
theorem xM_credit (os : Fin 2 → ℕ) (hs) : (xM os hs).view.dmaCredit = N := rfl

/-- One wait for a departure: the source's read share is whole again. -/
theorem depart_step (K : GSem nD τ sig → ℕ) (c : Dev nD) (j : Fin 24) (n m : ℕ) {α : Type} {Q : α → sProp 𝕄}
    {os od : Fin 2 → ℕ} {hs hd} {sS : DmaSem sig} {hws hwd} {k : PUnit → Prog (TpuEff nD τ sig (Elt F) Λ₀ .tc) α}
    (en : n = j.val := by rfl) (em : m = j.val + 1 := by rfl)
    (eS : sS = sendSem j := by exact Fin.ext (sem_cell2 _ _ _ _)) :
    Ctx xs gs K
      ⊢ iprop(WaitSt xs c n -∗ (WaitSt xs c m -∗ wp frame (wpE (defs₀ (F := F)) 𝒱₀ c none) Set.univ (k ⟨⟩) Q)
        -∗ wp frame (wpE (defs₀ (F := F)) 𝒱₀ c none) Set.univ (.op (.waitDma2 sS (gM od hd) (xM os hs) hwd hws) k) Q) := by
  subst eS en em
  unfold WaitSt
  rw [todo_step, done_step]
  iintro #HC ⟨⟨Hj, Htodo⟩, Hdone, ⟨%W, HO⟩⟩ Hk
  unfold wTodo sDone
  icases Hj with ⟨Hat, Hc, Hrest⟩
  ihave #HIS := (Ctx_send xs gs K c j) $$ HC
  iapply (Rounds.wp_wait_rest_token 𝒱₀ ER (talkRd xs gs) (c : Thread nD τ) none (κ := K (sendCell c j))
      (fun Kw => (wpE_waitDma2_eq 𝒱₀ (c : Thread nD τ) none Set.univ Kw).trans (congrArg (fun n => waitSpec (c : Thread nD τ) Set.univ (.dma (sendSem j)) n Kw) (xM_credit os hs)))
      (Set.mem_univ _) () (O := 0) (W := W) (R := 0) (m := 0) (T := ∅)
      ((Nat.zero_add _).trans (expect_send xs gs c j).symm)) $$ [Hc HO Hat]
  · isplitr; · iexact HIS
    isplitl [Hc]; · iexact Hc
    isplitl [HO]; · iexact HO
    isplitr; · rw [MayWait_zero]; iempintro
    iexact Hat
  iintro ⟨HO, Hat, -, Hpay⟩
  ihave Hx := (Entails.of_eq ((rest_send xs gs c j).trans (by unfold sendPay; rfl))) $$ Hpay
  ihave Hx := (src_join xs c j) $$ [Hx Hrest]
  · isplitl [Hx] <;> iassumption
  iapply Hk
  isplitl [Htodo]; · iexact Htodo
  isplitl [Hat Hx Hdone]
  · isplitl [Hat Hx]
    · unfold wDone; isplitl [Hat]; · iexact Hat
      iexact Hx
    · iexact Hdone
  iexists _; iexact HO

end Cert.KernelIdeal.Hand

end
-- ==== Proof.Start.lean ====
/- The barrier. -/
module

public import proofs.«01_k».proof.Proof.Send

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → main_v1.ty.Contents (Elt F)) (gs : Dev nD → main_v2_1.ty.Contents (Elt F))
  (ws : Dev nD → main_arg1.ty.Contents (Elt F))

/-- The places on `c` that the device `d` further on writes: what `c`'s signal to it hands over. -/
theorem own_slots (c : Dev nD) (d : ℕ) :
    (bigSep (Finset.univ.filter fun j : Fin 24 => 4 - dd j = d) fun j => slotOf gs c j : sProp 𝕄) = barPay gs (fwd c d) d := by
  unfold barPay
  refine bigSep_congr fun j hj => ?_
  have h := (Finset.mem_filter.1 hj).2
  have h1 := dd_pos j
  have h2 := dd_lt j
  have h3 := dev_lt c
  rw [show tgt (fwd c d) j = c from Fin.ext (by show ((c.val + d) % 4 + dd j) % 4 = c.val; omega)]

/-- One signal. -/
theorem sig_step (K : GSem nD τ sig → ℕ) (c : Dev nD) (d : ℕ) (hd : d ∈ ({1, 2, 3} : Finset ℕ)) {α : Type} {Q : α → sProp 𝕄} {p : Dev nD} {z : ℤ}
    {O O' : CellTallies nD τ sig Unit} {k : PUnit → Prog (TpuEff nD τ sig (Elt F) Λ₀ .tc) α}
    (ep : p = fwd c d) (ez : z = 1) (hO : O' = O + tallyAt (barCell (fwd c d)) () 1) :
    iprop(Ctx xs gs K ∗ (∃ W, owes (c : Thread nD τ) O' W) ∗ dutyTok ER (barCell (fwd c d)) 0 d
        ∗ bigSep (Finset.univ.filter fun j : Fin 24 => 4 - dd j = d) fun j => slotOf gs c j)
      ⊢ iprop(((∃ W, owes (c : Thread nD τ) O W) -∗ wp frame (wpE (defs₀ (F := F)) 𝒱₀ c none) Set.univ (k ⟨⟩) Q)
        -∗ wp frame (wpE (defs₀ (F := F)) 𝒱₀ c none) Set.univ (.op (.semSignal (p, .tc) barS z) k) Q) := by
  subst ep ez
  rw [own_slots]
  iintro ⟨#HC, ⟨%W, HO⟩, Ht, Hp⟩ Hk
  ihave #HB := (Ctx_bar xs gs K (fwd c d)) $$ HC
  icases HB with ⟨#HI, #HR⟩
  iapply (Rounds.wp_signal 𝒱₀ ER (talkRd xs gs) (c : Thread nD τ) none (dst := (fwd c d : Thread nD τ)) (sem := barS) (r := 0) (d := d) (k' := 1) (κ := K (barCell (fwd c d)))
      (by rw [duties_bar]; exact hd) (amount_bar xs gs (fwd c d) d) () O hO) $$ [HO Ht Hp]
  · isplitr; · iexact HI
    isplitl [HO]; · iexact HO
    isplitl [Ht]; · iexact Ht
    isplitl [Hp]; · rw [payload_bar]; iexact Hp
    iexact HR
  iintro HO
  iapply Hk
  iexists _; iexact HO

/-- What the core holds before the barrier. -/
def Greet (c : Dev nD) : sProp 𝕄 :=
  iprop(bigSep ({1, 2, 3} : Finset ℕ) (fun d => dutyTok ER (barCell (fwd c d)) 0 d) ∗ bigSep Finset.univ (slotOf gs c)
    ∗ atPos ER (barCell c) 0 ∅ 0 ∗ cred (tallyAt (barCell c) () 3) ∗ levAts L lv ∗ ∃ W, owes (c : Thread nD τ) (O₀ c) W)
/-- And after it. -/
def Met (c : Dev nD) : sProp 𝕄 :=
  iprop(bigSep Finset.univ (fun j : Fin 24 => slotOf gs (tgt c j) j) ∗ atPos ER (barCell c) 1 ∅ 0 ∗ ∃ W, owes (c : Thread nD τ) (Ofrom c 0) W)

/-- One, two, three, apart. -/
theorem three (Φ : ℕ → sProp 𝕄) : bigSep ({1, 2, 3} : Finset ℕ) Φ = iprop(Φ 1 ∗ Φ 2 ∗ Φ 3) := by
  rw [bigSep_insert (by decide), bigSep_insert (by decide), bigSep_singleton]; rfl

/-- The 24 places to write to, by the device that writes to them. -/
theorem slots_by (c : Dev nD) : (bigSep Finset.univ (slotOf gs c) : sProp 𝕄)
    = bigSep ({1, 2, 3} : Finset ℕ) fun d => bigSep (Finset.univ.filter fun j : Fin 24 => 4 - dd j = d) fun j => slotOf gs c j := by
  rw [bigSep_fiberwise (Finset.univ : Finset (Fin 24)) (fun j : Fin 24 => 4 - dd j), fwd_image]

/-- The first device signalled is one ahead. -/
theorem dev1_eq : ∀ c : Dev nD, (⟨k1_dev1 c, k1_dev1_lt c⟩ : Dev nD) = fwd c 1 := by decide
/-- The second device signalled is two ahead. -/
theorem dev2_eq : ∀ c : Dev nD, (⟨k1_dev2 c, k1_dev2_lt c⟩ : Dev nD) = fwd c 2 := by decide
/-- The third device signalled is three ahead. -/
theorem dev3_eq : ∀ c : Dev nD, (⟨k1_dev3 c, k1_dev3_lt c⟩ : Dev nD) = fwd c 3 := by decide

/-- A device asks for its own number. -/
theorem dev_step (c : Dev nD) {α : Type} {Q : α → sProp 𝕄} {k : Dev nD → Prog (TpuEff nD τ sig (Elt F) Λ₀ .tc) α} :
    wp frame (wpE (defs₀ (F := F)) 𝒱₀ c none) Set.univ (k c) Q
      ⊢ wp frame (wpE (defs₀ (F := F)) 𝒱₀ c none) Set.univ (.op .deviceId k) Q := by
  rw [wp_deviceId]

/-- The barrier: a signal to each other device, then the wait for theirs. -/
theorem part5_run (K : GSem nD τ sig → ℕ) (c : Dev nD) (Q : (Σ' (_ : Dev nD), BitVec 32) → sProp 𝕄) :
    iprop(Ctx xs gs K ∗ Greet gs c)
      ⊢ iprop((Met gs c -∗ ∀ v2, Q ⟨c, v2⟩)
        -∗ wp frame (wpE (defs₀ (F := F)) 𝒱₀ c none) Set.univ (onBufs (k1_part5 (F := F))) Q) := by
  unfold Greet
  rw [slots_by, three, three]
  iintro ⟨#HC, ⟨Ht1, Ht2, Ht3⟩, ⟨Hs1, Hs2, Hs3⟩, Hat, Hcr, #Hlev, HO⟩ Hk
  sl_unfold [k1_part5]
  iapply (dev_step c)
  iapply (sig_step xs gs K c 1 (by decide) (dev1_eq c) rfl rfl) $$ [HO Ht1 Hs1]
  · isplitr; · iexact HC
    isplitl [HO]; · iexact HO
    isplitl [Ht1] <;> iassumption
  iintro HO
  iapply (sig_step xs gs K c 2 (by decide) (dev2_eq c) rfl rfl) $$ [HO Ht2 Hs2]
  · isplitr; · iexact HC
    isplitl [HO]; · iexact HO
    isplitl [Ht2] <;> iassumption
  iintro HO
  iapply (sig_step xs gs K c 3 (by decide) (dev3_eq c) rfl rfl) $$ [HO Ht3 Hs3]
  · isplitr; · iexact HC
    isplitl [HO]; · iexact HO
    isplitl [Ht3] <;> iassumption
  iintro ⟨%W, HO⟩
  ihave #HB := (Ctx_bar xs gs K c) $$ HC
  icases HB with ⟨#HI, #HR⟩
  iapply (Rounds.wp_wait_rest_token 𝒱₀ ER (talkRd xs gs) (c : Thread nD τ) none (κ := K (barCell c))
      (wpE_semWait_eq 𝒱₀ (c : Thread nD τ) none Set.univ) (Set.mem_univ _) () (O := Ofrom c 0) (W := W) (R := 0) (m := 0) (T := ∅)
      ((Nat.zero_add 3).trans (expect_bar xs gs c).symm)) $$ [Hcr HO Hat]
  · isplitr; · iexact HI
    isplitl [Hcr]; · iexact Hcr
    isplitl [HO]; · iexact HO
    isplitr; · iapply (mayWait_bar c); iexact Hlev
    iexact Hat
  iintro ⟨HO, Hat, -, Hpay⟩
  ihave Hp := (Entails.of_eq (rest_bar xs gs c)) $$ Hpay
  iapply (le_wp_ret _ _)
  iapply Hk $$ [Hp Hat HO]
  unfold Met
  isplitl [Hp]; · iexact Hp
  isplitl [Hat]; · iexact Hat
  iexists _; iexact HO

end Cert.KernelIdeal.Hand

end
-- ==== Proof.Copy.lean ====
/- The core's own copies into its two double-buffered staging buffers: what is held before, during and after one. -/
module

public import proofs.«01_k».proof.Proof.Send

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → main_v1.ty.Contents (Elt F)) (gs : Dev nD → main_v2_1.ty.Contents (Elt F))
  (ws : Dev nD → main_arg1.ty.Contents (Elt F))

/-- The credit of one tile of either operand. -/
abbrev NA : ℕ := (aM ![0, 0, 0] (by decide)).view.dmaCredit
/-- What one copy of a tile of the second operand credits to its semaphore. -/
abbrev NW : ℕ := (wM ![0, 0, 0] (by decide)).view.dmaCredit
/-- That credit of the first operand is not zero. -/
theorem NA_pos : 0 < NA := View.dmaCredit_pos _ (by decide)
/-- That credit of the second operand is not zero. -/
theorem NW_pos : 0 < NW := View.dmaCredit_pos _ (by decide)

/-- A local copy under way: once its cell has paid, `P`. -/
def Fly (c : Dev nD) (sm : DmaSem sig) (n : ℕ) (P : sProp 𝕄) : sProp 𝕄 :=
  iprop(∃ D, Transfers.Flight EC (c : Thread nD τ) (.dma sm) () n D ∗ (D -∗ P))

/-- The core owes nothing. -/
def Idle (c : Dev nD) : sProp 𝕄 := iprop(∃ W, owes (c : Thread nD τ) (0 : CellTallies nD τ sig Unit) W)

/-- Slot `s` of the second operand's staging buffer holding tile `q`; any contents; its cell at zero with the read share. -/
def wHas (c : Dev nD) (s : Fin 2) (q : ℕ) : sProp 𝕄 := part c cc1_scratch2 (wSet s) fullShare (wTile (ws c) q)
/-- The fraction of the second operand that a copy into slot `s` reads with. -/
def wRest (c : Dev nD) (s : Fin 2) : sProp 𝕄 := part c main_arg1 Finset.univ (tok s) (ws c)
/-- Slot `s` of the second operand, with no copy in flight. -/
def wFree (c : Dev nD) (s : Fin 2) : sProp 𝕄 :=
  iprop((∃ f, part c cc1_scratch2 (wSet s) fullShare f) ∗ semVal ((c : Thread nD τ), .dma (wSem s)) 0 ∗ wRest ws c s)
/-- The same for the first operand. -/
def aHas (c : Dev nD) (s : Fin 2) (q : ℕ) : sProp 𝕄 := part c cc1_scratch1 (aSet s) fullShare (aTile xs c q)
/-- The fraction of the rounded operand that a copy into slot `s` reads with. -/
def aRest (c : Dev nD) (s : Fin 2) : sProp 𝕄 := part c main_v1 Finset.univ (tok (24 + s)) (xs c)
/-- Slot `s` of the first operand, with no copy in flight. -/
def aFree (c : Dev nD) (s : Fin 2) : sProp 𝕄 :=
  iprop((∃ f, part c cc1_scratch1 (aSet s) fullShare f) ∗ semVal ((c : Thread nD τ), .dma (aSem s)) 0 ∗ aRest xs c s)

/-- Tile `q` on its way into slot `s`. `P` rides along. -/
def wFly (c : Dev nD) (s : Fin 2) (q : ℕ) : sProp 𝕄 := Fly c (wSem s) NW iprop(wHas ws c s q ∗ wRest ws c s)
/-- A copy of tile `q` into slot `s` of the first operand is in flight; with it comes back `P`. -/
def aFly (c : Dev nD) (s : Fin 2) (q : ℕ) (P : sProp 𝕄) : sProp 𝕄 := Fly c (aSem s) NA iprop(aHas xs c s q ∗ aRest xs c s ∗ P)

/-- The wait for any local copy. -/
theorem fly_wait (c : Dev nD) {sm sm' : DmaSem sig} {n : ℕ} {P : sProp 𝕄} {α : Type} {Q : α → sProp 𝕄}
    {sp sp' : Space} {s s' : Shape} {e e' : EltTy} {srcw : Memref sig .tc sp' s' e'} {dstw : Memref sig .tc sp s e} {hws hwd}
    {k : PUnit → Prog (TpuEff nD τ sig (Elt F) Λ₀ .tc) α} (em : sm = sm') (hN : dstw.view.dmaCredit = n) :
    iprop(Fly c sm' n P ∗ Idle c)
      ⊢ iprop((iprop(P ∗ semVal ((c : Thread nD τ), .dma sm') 0 ∗ Idle c) -∗ wp frame (wpE (defs₀ (F := F)) 𝒱₀ c none) Set.univ (k ⟨⟩) Q)
        -∗ wp frame (wpE (defs₀ (F := F)) 𝒱₀ c none) Set.univ (.op (.waitDma2 sm srcw dstw hws hwd) k) Q) := by
  subst em
  unfold Fly Idle
  iintro ⟨⟨%D, HF, HD⟩, ⟨%W, HO⟩⟩ Hk
  iapply (Transfers.wp_waitLocal EC 𝒱₀ (c : Thread nD τ) none (W := W) () hN) $$ [HF HO]
  · isplitl [HF] <;> iassumption
  iintro ⟨HD', Hv, HO⟩
  iapply Hk
  isplitl [HD HD']; · iapply HD $$ HD'
  isplitl [Hv]; · iexact Hv
  iexists _; iexact HO

/-- A copy of a row tile of the second operand starts. -/
theorem w_start (c : Dev nD) (s : Fin 2) (q : ℕ) {α : Type} {Q : α → sProp 𝕄} {os : Fin 2 → ℕ} {od : Fin 3 → ℕ} {hs hd} {sm : DmaSem sig}
    {hws hwd hty} {k : PUnit → Prog (TpuEff nD τ sig (Elt F) Λ₀ .tc) α}
    (hq : q < 32) (es : os = ![256 * q, 0]) (ed : od = ![s.val, 0, 0]) (em : sm = wSem s) :
    wFree ws c s
      ⊢ iprop((wFly ws c s q -∗ wp frame (wpE (defs₀ (F := F)) 𝒱₀ c none) Set.univ (k ⟨⟩) Q)
        -∗ wp frame (wpE (defs₀ (F := F)) 𝒱₀ c none) Set.univ (.op (.enqueueDma (bM os hs) (.here (wM od hd)) (.dma sm) hws hwd hty) k) Q) := by
  subst em
  have hset := wM_set hd ed
  unfold wFree wRest
  iintro ⟨⟨%f, Hd⟩, Hv, Hs⟩ Hk
  ihave Hs := (pointsTo_split_subset (Finset.subset_univ (bM os hs).view.set)).1 $$ Hs
  icases Hs with ⟨Hs, Hr⟩
  iapply (Transfers.wp_dmaLocal EC 𝒱₀ (c : Thread nD τ) none (src := bM os hs) (dst := wM od hd) (sm := .dma (wSem s)) (Sd := wSet s) (fd := f) (fs := ws c)
      (q := tok s) () NW rfl NW_pos hset.le) $$ [Hs Hd Hv]
  · isplitl [Hs]; · iexact Hs
    isplitl [Hd]; · iexact Hd
    iexact Hv
  iintro HF
  iapply Hk
  unfold wFly Fly
  iexists _
  isplitl [HF]; · iexact HF
  iintro ⟨Hd, Hs⟩
  isplitl [Hd]
  · unfold wHas
    iapply (Entails.of_eq (pointsTo_congr fun i hi => w_lands (ws c) hq hd hs ed es f i (hset.ge hi)))
    iexact Hd
  · unfold wRest
    iapply (pointsTo_split_subset (Finset.subset_univ (bM os hs).view.set)).2
    isplitl [Hs] <;> iassumption

/-- A copy of one of the core's own tiles of the first operand starts, out of its cast operand. -/
theorem a_start (c : Dev nD) (s : Fin 2) (k' : ℕ) {α : Type} {Q : α → sProp 𝕄} {os : Fin 2 → ℕ} {od : Fin 3 → ℕ} {hs hd} {sm : DmaSem sig}
    {hws hwd hty} {k : PUnit → Prog (TpuEff nD τ sig (Elt F) Λ₀ .tc) α}
    (hk : k' < 8) (es : os = ![2048 * c.val, 256 * k']) (ed : od = ![s.val, 0, 0]) (em : sm = aSem s) :
    aFree xs c s
      ⊢ iprop((aFly xs c s (8 * c.val + k') iprop(emp) -∗ wp frame (wpE (defs₀ (F := F)) 𝒱₀ c none) Set.univ (k ⟨⟩) Q)
        -∗ wp frame (wpE (defs₀ (F := F)) 𝒱₀ c none) Set.univ (.op (.enqueueDma (xM os hs) (.here (aM od hd)) (.dma sm) hws hwd hty) k) Q) := by
  subst em
  have hset := aM_set hd ed
  unfold aFree aRest
  iintro ⟨⟨%f, Hd⟩, Hv, Hs⟩ Hk
  ihave Hs := (pointsTo_split_subset (Finset.subset_univ (xM os hs).view.set)).1 $$ Hs
  icases Hs with ⟨Hs, Hr⟩
  iapply (Transfers.wp_dmaLocal EC 𝒱₀ (c : Thread nD τ) none (src := xM os hs) (dst := aM od hd) (sm := .dma (aSem s)) (Sd := aSet s) (fd := f) (fs := xs c)
      (q := tok (24 + s)) () NA rfl NA_pos hset.le) $$ [Hs Hd Hv]
  · isplitl [Hs]; · iexact Hs
    isplitl [Hd]; · iexact Hd
    iexact Hv
  iintro HF
  iapply Hk
  unfold aFly Fly
  iexists _
  isplitl [HF]; · iexact HF
  iintro ⟨Hd, Hs⟩
  isplitl [Hd]
  · unfold aHas
    iapply (Entails.of_eq (pointsTo_congr fun i hi => own_lands xs c hk hd hs ed es f i (hset.ge hi)))
    iexact Hd
  isplitl [Hs Hr]
  · unfold aRest
    iapply (pointsTo_split_subset (Finset.subset_univ (xM os hs).view.set)).2
    isplitl [Hs] <;> iassumption
  iempintro

/-- A copy of a received tile of the first operand starts, out of the gathered buffer. `P` rides along. -/
theorem g_start (c : Dev nD) (s : Fin 2) (q : ℕ) (P : sProp 𝕄) {α : Type} {Q : α → sProp 𝕄} {os : Fin 2 → ℕ} {od : Fin 3 → ℕ} {hs hd} {sm : DmaSem sig}
    {hws hwd hty} {k : PUnit → Prog (TpuEff nD τ sig (Elt F) Λ₀ .tc) α}
    (hq : q < 32) (es : os = ![0, 256 * q]) (ed : od = ![s.val, 0, 0]) (em : sm = aSem s) :
    iprop(aFree xs c s ∗ part c main_v2_1 (colSet q) fullShare (Xa xs c) ∗ P)
      ⊢ iprop((aFly xs c s q iprop(part c main_v2_1 (colSet q) fullShare (Xa xs c) ∗ P) -∗ wp frame (wpE (defs₀ (F := F)) 𝒱₀ c none) Set.univ (k ⟨⟩) Q)
        -∗ wp frame (wpE (defs₀ (F := F)) 𝒱₀ c none) Set.univ (.op (.enqueueDma (gM os hs) (.here (aM od hd)) (.dma sm) hws hwd hty) k) Q) := by
  subst em
  have hset := aM_set hd ed
  have hsrc := gM_set hs es
  unfold aFree
  iintro ⟨⟨⟨%f, Hd⟩, Hv, Hr⟩, Hs, HP⟩ Hk
  iapply (Transfers.wp_dmaLocal EC 𝒱₀ (c : Thread nD τ) none (src := gM os hs) (dst := aM od hd) (sm := .dma (aSem s)) (Sd := aSet s) (fd := f) (fs := Xa xs c)
      (q := fullShare) () NA rfl NA_pos hset.le) $$ [Hs Hd Hv]
  · isplitl [Hs]; · rw [hsrc]; iexact Hs
    isplitl [Hd]; · iexact Hd
    iexact Hv
  iintro HF
  iapply Hk
  unfold aFly Fly
  iexists _
  isplitl [HF]; · iexact HF
  rw [hsrc]
  iintro ⟨Hd, Hs⟩
  isplitl [Hd]
  · unfold aHas
    iapply (Entails.of_eq (pointsTo_congr fun i hi => got_lands (Xa xs c) hq hd hs ed es f i (hset.ge hi)))
    iexact Hd
  isplitl [Hr]; · iexact Hr
  isplitl [Hs] <;> iassumption

end Cert.KernelIdeal.Hand

end
-- ==== Proof.Offs.lean ====
/- The closed forms of the offsets and conditions the two loops compute. -/
module

public import proofs.«01_k».proof.Proof.Geom

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The staging slot of the `n`-th tile. -/
def sl (n : ℕ) : Fin 2 := ⟨n % 2, Nat.mod_lt _ (by decide)⟩

/-- The first loop makes eight trips. -/
theorem trips1 : k1_t1_loop.trips = 8 := by decide
/-- The second loop makes 24 trips. -/
theorem trips2 : k1_t2_loop.trips = 24 := by decide

/-! ## The conditions of the two loops -/

/-- When the first loop asks for the next own tile. -/
theorem cond1_iff : ∀ (t : Fin k1_t1_loop.trips), k1_cond1 t = 1#1 ↔ t.val + 1 < 8 := by decide
/-- When the first loop asks for the first tile received. -/
theorem cond2_iff : ∀ (t : Fin k1_t1_loop.trips), k1_cond2 t = 1#1 ↔ t.val + 1 = 8 := by decide
/-- When the second loop asks for a further tile received. -/
theorem cond3_iff : ∀ (t : Fin k1_t2_loop.trips), k1_cond3 t = 1#1 ↔ t.val + 1 < 24 := by decide

/-! ## The first loop: the core's own tiles -/

/-- The printed offset number 10, in the numbers of the tiles and slots. -/
theorem off10_eq : ∀ (d : Dev nD), k1_off10 d = ![256 * qn d 0, 0] := by decide
/-- The printed offset number 11, in the numbers of the tiles and slots. -/
theorem off11_eq : ∀ (d : Dev nD), k1_off11 d = ![2048 * d.val, 256 * 0] := by decide
/-- The printed offset number 12, in the numbers of the tiles and slots. -/
theorem off12_eq : ∀ (t : Fin k1_t1_loop.trips), k1_off12 t = ![(sl (t.val + 1)).val] := by decide
/-- The printed offset number 13, in the numbers of the tiles and slots. -/
theorem off13_eq : ∀ (t : Fin k1_t1_loop.trips), k1_off13 t = ![(sl (t.val + 1)).val, 0, 0] := by decide
/-- The printed offset number 14, in the numbers of the tiles and slots. -/
theorem off14_eq : ∀ (d : Dev nD) (t : Fin k1_t1_loop.trips), t.val + 1 < 8 → k1_off14 d t = ![256 * qn d (t.val + 1), 0] := by decide
/-- The printed offset number 15, in the numbers of the tiles and slots. -/
theorem off15_eq : ∀ (t : Fin k1_t1_loop.trips), k1_off15 t = ![(sl (t.val + 1)).val, 0, 0] := by decide
/-- The printed offset number 16, in the numbers of the tiles and slots. -/
theorem off16_eq : ∀ (d : Dev nD) (t : Fin k1_t1_loop.trips), t.val + 1 < 8 → k1_off16 d t = ![2048 * d.val, 256 * (t.val + 1)] := by decide
/-- The printed offset number 17, in the numbers of the tiles and slots. -/
theorem off17_eq : k1_off17 = ![dd 0 - 1, kc 0] := by decide
/-- The printed offset number 18, in the numbers of the tiles and slots. -/
theorem off18_eq : ∀ (d : Dev nD), k1_off18 d = ![0, 256 * qn d 8] := by decide
/-- The printed offset number 19, in the numbers of the tiles and slots. -/
theorem off19_eq : ∀ (t : Fin k1_t1_loop.trips), k1_off19 t = ![(sl (t.val + 1)).val] := by decide
/-- The printed offset number 20, in the numbers of the tiles and slots. -/
theorem off20_eq : ∀ (t : Fin k1_t1_loop.trips), k1_off20 t = ![(sl (t.val + 1)).val, 0, 0] := by decide
/-- The printed offset number 21, in the numbers of the tiles and slots. -/
theorem off21_eq : ∀ (d : Dev nD), k1_off21 d = ![256 * qn d 8, 0] := by decide
/-- The printed offset number 22, in the numbers of the tiles and slots. -/
theorem off22_eq : ∀ (t : Fin k1_t1_loop.trips), k1_off22 t = ![(sl (t.val + 1)).val, 0, 0] := by decide
/-- The printed offset number 23, in the numbers of the tiles and slots. -/
theorem off23_eq : ∀ (t : Fin k1_t1_loop.trips), k1_off23 t = ![(sl t.val).val] := by decide
/-- The printed offset number 24, in the numbers of the tiles and slots. -/
theorem off24_eq : ∀ (t : Fin k1_t1_loop.trips), k1_off24 t = ![(sl t.val).val, 0, 0] := by decide
/-- The printed offset number 25, in the numbers of the tiles and slots. -/
theorem off25_eq : ∀ (t : Fin k1_t1_loop.trips), k1_off25 t = ![(sl t.val).val, 0, 0] := by decide
/-- The printed offset number 26, in the numbers of the tiles and slots. -/
theorem off26_eq : ∀ (t : Fin k1_t1_loop.trips), k1_off26 t = ![(sl t.val).val, 0, 0] := by decide
/-- The printed offset number 27, in the numbers of the tiles and slots. -/
theorem off27_eq : ∀ (t : Fin k1_t1_loop.trips), k1_off27 t = ![(sl t.val).val, 0, 0] := by decide

/-! ## The second loop: the received tiles -/

/-- The printed offset number 28, in the numbers of the tiles and slots. -/
theorem off28_eq : ∀ (t : Fin k1_t2_loop.trips), t.val + 1 < 24 → k1_off28 t = ![dd (t.val + 1) - 1, kc (t.val + 1)] := by decide
/-- The printed offset number 29, in the numbers of the tiles and slots. -/
theorem off29_eq : ∀ (d : Dev nD) (t : Fin k1_t2_loop.trips), t.val + 1 < 24 → k1_off29 d t = ![0, 256 * qn d (8 + t.val + 1)] := by decide
/-- The printed offset number 30, in the numbers of the tiles and slots. -/
theorem off30_eq : ∀ (t : Fin k1_t2_loop.trips), k1_off30 t = ![(sl (8 + t.val + 1)).val] := by decide
/-- The printed offset number 31, in the numbers of the tiles and slots. -/
theorem off31_eq : ∀ (t : Fin k1_t2_loop.trips), k1_off31 t = ![(sl (8 + t.val + 1)).val, 0, 0] := by decide
/-- The printed offset number 32, in the numbers of the tiles and slots. -/
theorem off32_eq : ∀ (d : Dev nD) (t : Fin k1_t2_loop.trips), t.val + 1 < 24 → k1_off32 d t = ![256 * qn d (8 + t.val + 1), 0] := by decide
/-- The printed offset number 33, in the numbers of the tiles and slots. -/
theorem off33_eq : ∀ (t : Fin k1_t2_loop.trips), k1_off33 t = ![(sl (8 + t.val + 1)).val, 0, 0] := by decide
/-- The printed offset number 34, in the numbers of the tiles and slots. -/
theorem off34_eq : ∀ (t : Fin k1_t2_loop.trips), k1_off34 t = ![(sl (8 + t.val)).val] := by decide
/-- The printed offset number 35, in the numbers of the tiles and slots. -/
theorem off35_eq : ∀ (t : Fin k1_t2_loop.trips), k1_off35 t = ![(sl (8 + t.val)).val, 0, 0] := by decide
/-- The printed offset number 36, in the numbers of the tiles and slots. -/
theorem off36_eq : ∀ (t : Fin k1_t2_loop.trips), k1_off36 t = ![(sl (8 + t.val)).val, 0, 0] := by decide
/-- The printed offset number 37, in the numbers of the tiles and slots. -/
theorem off37_eq : ∀ (t : Fin k1_t2_loop.trips), k1_off37 t = ![(sl (8 + t.val)).val, 0, 0] := by decide
/-- The printed offset number 38, in the numbers of the tiles and slots. -/
theorem off38_eq : ∀ (t : Fin k1_t2_loop.trips), k1_off38 t = ![(sl (8 + t.val)).val, 0, 0] := by decide

/-! ## The semaphores the kernel names by an offset -/

/-- The semaphore of slot `s` of the first operand. -/
theorem sem_a {off : Fin 1 → ℕ} {s : Fin 2} (e : off = ![s.val]) (inb) :
    ((cc1_scratch3.slice (Rect.unit (s := S2) off S1.size inb)).squeeze S_ squeezes_S1_S_).sem = aSem s := by
  subst e; exact Fin.ext (sem_cell1 _ _ _)
/-- The semaphore of slot `s` of the second operand. -/
theorem sem_w {off : Fin 1 → ℕ} {s : Fin 2} (e : off = ![s.val]) (inb) :
    ((cc1_scratch4.slice (Rect.unit (s := S2) off S1.size inb)).squeeze S_ squeezes_S1_S_).sem = wSem s := by
  subst e; exact Fin.ext (sem_cell1 _ _ _)
/-- The semaphore of arrival `j`. -/
theorem sem_recv {off : Fin 2 → ℕ} {j : Fin 24} (e : off = ![dd j - 1, kc j]) (inb) :
    ((cc1_scratch6.slice (Rect.unit (s := S3x8) off S1x1.size inb)).squeeze S_ squeezes_S1x1_S_).sem = recvSem j := by
  subst e; refine Fin.ext ((sem_cell2 _ _ _ _).trans ?_); simp only [recvSem]; omega

end Cert.KernelIdeal.Hand

end
-- ==== Proof.Trip.lean ====
/- The state of the two multiplying loops, and the steps their trips are made of. -/
module

public import proofs.«01_k».proof.Proof.Copy
public import proofs.«01_k».proof.Proof.Offs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → main_v1.ty.Contents (Elt F)) (gs : Dev nD → main_v2_1.ty.Contents (Elt F))
  (ws : Dev nD → main_arg1.ty.Contents (Elt F))

/-! ## The states of the two loops, by the number of tiles multiplied -/

/-- The accumulator after `n` tiles. -/
def accAt (c : Dev nD) : ℕ → FVec F S2048x4096 .f32
  | 0 => k1_pay4
  | n + 1 => k1_pay6 (k1_pay3 (accAt c n) (aVec xs c (qn c n)) (wVec (ws c) (qn c n)))

/-- Before transfer `j` of another device has landed here, and after. -/
def rTodo (c : Dev nD) (j : Fin 24) : sProp 𝕄 := iprop(atPos ER (recvCell c j) 0 ∅ 0 ∗ cred (tallyAt (recvCell c j) () N))
/-- After transfer `j` of another device has landed here and its tile has been read. -/
def rHome (c : Dev nD) (j : Fin 24) : sProp 𝕄 :=
  iprop(part c main_v2_1 (colSet (qn c (8 + j.val))) fullShare (Xa xs c) ∗ atPos ER (recvCell c j) 1 ∅ 0)
/-- What rides along with tile `n`'s copy: the piece of the gathered buffer it reads, if it was received. -/
def ride (c : Dev nD) (n : ℕ) : sProp 𝕄 := if h : 8 ≤ n ∧ n < 32 then rHome xs c ⟨n - 8, by omega⟩ else iprop(emp)

/-- Tile `n`'s slot, free. -/
def free (c : Dev nD) (n : ℕ) : sProp 𝕄 := iprop(aFree xs c (sl n) ∗ wFree ws c (sl n))
/-- Tile `n`'s two copies, under way; beyond the last tile, its slot free. -/
def fly (c : Dev nD) (n : ℕ) : sProp 𝕄 :=
  if n < 32 then iprop(aFly xs c (sl n) (qn c n) (ride xs c n) ∗ wFly ws c (sl n) (qn c n)) else free xs ws c n
/-- The receives from the `n`-th on, to be waited for; the pieces of the first `n`, multiplied and back. -/
def pend (c : Dev nD) (n : ℕ) : sProp 𝕄 := bigSep (Finset.univ.filter fun j : Fin 24 => n ≤ j.val) (rTodo c)
/-- The pieces received and read after `n` of them. -/
def homes (c : Dev nD) (n : ℕ) : sProp 𝕄 := bigSep (Finset.univ.filter fun j : Fin 24 => j.val < n) (rHome xs c)
/-- The accumulator. -/
def acc (c : Dev nD) (n : ℕ) : sProp 𝕄 := buf c cc1_scratch0 fullShare (accAt xs ws c n)

/-- Before tile `n` is multiplied, the next one not yet asked for. -/
def St (c : Dev nD) (n : ℕ) : sProp 𝕄 :=
  iprop(fly xs ws c n ∗ free xs ws c (n + 1) ∗ acc xs ws c n ∗ pend c (n - 7) ∗ homes xs c (n - 8) ∗ Idle c)
/-- Before tile `n` is multiplied, the next one asked for. -/
def Mid (c : Dev nD) (n : ℕ) : sProp 𝕄 :=
  iprop(fly xs ws c n ∗ fly xs ws c (n + 1) ∗ acc xs ws c n ∗ pend c (n - 6) ∗ homes xs c (n - 8) ∗ Idle c)

/-- A tile of the own columns in flight. -/
theorem fly_own (c : Dev nD) {n : ℕ} (h : n < 8) :
    iprop(aFly xs c (sl n) (8 * c.val + n) iprop(emp) ∗ wFly ws c (sl n) (qn c n)) ⊢ (fly xs ws c n : sProp 𝕄) := by
  unfold fly ride
  rw [if_pos (by omega), dif_neg (by omega), qn_own c h]
/-- A received tile in flight brings its piece back. -/
theorem fly_got (c : Dev nD) (j : Fin 24) :
    iprop(aFly xs c (sl (8 + j.val)) (qn c (8 + j.val)) (rHome xs c j) ∗ wFly ws c (sl (8 + j.val)) (qn c (8 + j.val))) ⊢ (fly xs ws c (8 + j.val) : sProp 𝕄) := by
  have := j.isLt
  unfold fly ride
  rw [if_pos (by omega), dif_pos (by omega)]
  simp only [Nat.add_sub_cancel_left, Fin.eta]; exact BI.Entails.refl _
/-- Past the last tile a slot is only free. -/
theorem fly_free (c : Dev nD) {n : ℕ} (h : 32 ≤ n) : (free xs ws c n : sProp 𝕄) ⊢ fly xs ws c n := by
  unfold fly; rw [if_neg (by omega)]
/-- A tile in flight, operand by operand. -/
theorem fly_open (c : Dev nD) {n : ℕ} (h : n < 32) :
    (fly xs ws c n : sProp 𝕄) ⊢ iprop(aFly xs c (sl n) (qn c n) (ride xs c n) ∗ wFly ws c (sl n) (qn c n)) := by
  unfold fly; rw [if_pos h]
/-- What rode along is home. -/
theorem ride_home (c : Dev nD) {n : ℕ} (h : n < 32) : iprop(ride xs c n ∗ homes xs c (n - 8)) ⊢ (homes xs c (n + 1 - 8) : sProp 𝕄) := by
  unfold ride
  by_cases h8 : 8 ≤ n
  · rw [dif_pos ⟨h8, h⟩, homes, homes, show n + 1 - 8 = (⟨n - 8, by omega⟩ : Fin 24).val + 1 by show n + 1 - 8 = n - 8 + 1; omega, done_step]
  · rw [dif_neg (by omega), show n + 1 - 8 = n - 8 by omega]
    iintro ⟨-, H⟩; iexact H

/-! ## The steps -/

/-- Every column piece counts the same. -/
theorem gM_credit (os : Fin 2 → ℕ) (hs) : (gM os hs).view.dmaCredit = N := rfl

/-- A wait for a landing: the piece is in hand at the gathered rows. -/
theorem recv_step (K : GSem nD τ sig → ℕ) (c : Dev nD) (j : Fin 24) {α : Type} {Q : α → sProp 𝕄}
    {os od : Fin 2 → ℕ} {hs hd} {sm : DmaSem sig} {hws hwd} {k : PUnit → Prog (TpuEff nD τ sig (Elt F) Λ₀ .tc) α} (em : sm = recvSem j) :
    iprop(Ctx xs gs K ∗ pend c j.val ∗ Idle c)
      ⊢ iprop((iprop(rHome xs c j ∗ pend c (j.val + 1) ∗ Idle c) -∗ wp frame (wpE (defs₀ (F := F)) 𝒱₀ c none) Set.univ (k ⟨⟩) Q)
        -∗ wp frame (wpE (defs₀ (F := F)) 𝒱₀ c none) Set.univ (.op (.waitDma2 sm (gM os hs) (gM od hd) hws hwd) k) Q) := by
  subst em
  unfold pend Idle
  rw [todo_step]
  iintro ⟨#HC, ⟨Hj, Htodo⟩, ⟨%W, HO⟩⟩ Hk
  unfold rTodo
  icases Hj with ⟨Hat, Hc⟩
  ihave #HI := (Ctx_recv xs gs K c j) $$ HC
  iapply (Rounds.wp_wait_rest_token 𝒱₀ ER (talkRd xs gs) (c : Thread nD τ) none (κ := K (recvCell c j))
      (fun Kw => (wpE_waitDma2_eq (src := gM os hs) (dst := gM od hd) (hsrc := hws) (hdst := hwd) 𝒱₀ (c : Thread nD τ) none Set.univ Kw).trans
        (congrArg (fun n => waitSpec (c : Thread nD τ) Set.univ (.dma (recvSem j)) n Kw) (gM_credit od hd)))
      (Set.mem_univ _) () (O := 0) (W := W) (R := 0) (m := 0) (T := ∅)
      ((Nat.zero_add _).trans (expect_recv xs gs c j).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hx := (Entails.of_eq ((rest_recv xs gs c j).trans (by unfold recvPay; rfl))) $$ Hpay
  iapply Hk
  isplitl [Hx Hat]
  · unfold rHome; isplitl [Hx]; · iexact Hx
    iexact Hat
  isplitl [Htodo]; · iexact Htodo
  iexists _; iexact HO

/-- A load of a slot of either staging buffer reads the tile it holds. -/
theorem a_load_step (c : Dev nD) (s : Fin 2) (q : ℕ) {α : Type} {Q : α → sProp 𝕄} {off : Fin 3 → ℕ} {h hl}
    {k : Vec F S1x2048x256 .bf16 → Prog (TpuEff nD τ sig (Elt F) Λ₀ .tc) α} (e : off = ![s.val, 0, 0]) :
    aHas xs c s q ⊢ iprop((aHas xs c s q -∗ wp frame (wpE (defs₀ (F := F)) 𝒱₀ c none) Set.univ (k (aVec xs c q)) Q)
      -∗ wp frame (wpE (defs₀ (F := F)) 𝒱₀ c none) Set.univ
        (.op (.load (Memref.whole cc1_scratch1) (Rect.unit (s := S2x2048x256) off S1x2048x256.size h).toLoadRect hl) k) Q) := by
  unfold aHas
  iintro H Hk
  iapply (wp_load 𝒱₀ (c : Thread nD τ) none Set.univ (m := Memref.whole cc1_scratch1) (a_load_set h e)) $$ H
  iintro H
  rw [a_load xs c q s.val h e]
  iapply Hk $$ H
/-- Reading slot `s` of the second operand gives tile `q` that it holds. -/
theorem w_load_step (c : Dev nD) (s : Fin 2) (q : ℕ) {α : Type} {Q : α → sProp 𝕄} {off : Fin 3 → ℕ} {h hl}
    {k : Vec F S1x256x4096 .f32 → Prog (TpuEff nD τ sig (Elt F) Λ₀ .tc) α} (e : off = ![s.val, 0, 0]) :
    wHas ws c s q ⊢ iprop((wHas ws c s q -∗ wp frame (wpE (defs₀ (F := F)) 𝒱₀ c none) Set.univ (k (wVec (ws c) q)) Q)
      -∗ wp frame (wpE (defs₀ (F := F)) 𝒱₀ c none) Set.univ
        (.op (.load (Memref.whole cc1_scratch2) (Rect.unit (s := S2x256x4096) off S1x256x4096.size h).toLoadRect hl) k) Q) := by
  unfold wHas
  iintro H Hk
  iapply (wp_load 𝒱₀ (c : Thread nD τ) none Set.univ (m := Memref.whole cc1_scratch2) (w_load_set h e)) $$ H
  iintro H
  rw [w_load (ws c) q s.val h e]
  iapply Hk $$ H

/-- The accumulator's rectangle is the whole buffer. -/
abbrev accR : Rect S2048x4096 := Rect.unit (s := S2048x4096) ![0, 0] S2048x4096.size inb_S2048x4096_S2048x4096_0_0
/-- The accumulator is accessed whole. -/
theorem acc_emb (i : S2048x4096.Idx) : accR.emb i = i := by
  refine funext fun a => Fin.ext ((ValueKit.rect_emb_unit_val (s := S2048x4096) ![0, 0] S2048x4096.size _ i a).trans ?_)
  fin_cases a <;> exact Nat.zero_add _
/-- Reading the accumulator gives what it holds. -/
theorem acc_read (f : cc1_scratch0.ty.Contents (Elt F)) : (Memref.whole cc1_scratch0).view.readAt (Elt F) accR.toLoadRect f = f := by
  refine funext fun i => ?_
  show f (accR.emb i) = f i
  rw [acc_emb]
/-- Storing into the accumulator replaces what it holds. -/
theorem acc_write (f v : cc1_scratch0.ty.Contents (Elt F)) : ((Memref.whole cc1_scratch0).access accR).write (Elt F) f v Finset.univ = v := by
  refine funext fun i => ?_
  have h := View.write_emb_of_mem (v := (Memref.whole cc1_scratch0).access accR) (Val := Elt F) f v (M := Finset.univ) (x := i) (Finset.mem_univ _)
  rw [show ((Memref.whole cc1_scratch0).access accR).emb i = i from acc_emb i] at h
  exact h
/-- A load of the accumulator. -/
theorem acc_load_step (c : Dev nD) (f : FVec F S2048x4096 .f32) {α : Type} {Q : α → sProp 𝕄} {hl}
    {k : Vec F S2048x4096 .f32 → Prog (TpuEff nD τ sig (Elt F) Λ₀ .tc) α} :
    buf c cc1_scratch0 fullShare f ⊢ iprop((buf c cc1_scratch0 fullShare f -∗ wp frame (wpE (defs₀ (F := F)) 𝒱₀ c none) Set.univ (k f) Q)
      -∗ wp frame (wpE (defs₀ (F := F)) 𝒱₀ c none) Set.univ (.op (.load (Memref.whole cc1_scratch0) accR.toLoadRect hl) k) Q) := by
  iintro H Hk
  iapply (wp_load 𝒱₀ (c : Thread nD τ) none Set.univ (m := Memref.whole cc1_scratch0) (r := accR.toLoadRect) (Finset.subset_univ _)) $$ H
  iintro H
  rw [acc_read f]
  iapply Hk $$ H
/-- A store into the accumulator. -/
theorem acc_store_step (c : Dev nD) (f v : FVec F S2048x4096 .f32) {α : Type} {Q : α → sProp 𝕄} {hx hm}
    {k : PUnit → Prog (TpuEff nD τ sig (Elt F) Λ₀ .tc) α} :
    buf c cc1_scratch0 fullShare f ⊢ iprop((buf c cc1_scratch0 fullShare v -∗ wp frame (wpE (defs₀ (F := F)) 𝒱₀ c none) Set.univ (k ⟨⟩) Q)
      -∗ wp frame (wpE (defs₀ (F := F)) 𝒱₀ c none) Set.univ (.op (.store (Memref.whole cc1_scratch0) accR v Finset.univ hx hm) k) Q) := by
  iintro H Hk
  iapply (wp_store 𝒱₀ (c : Thread nD τ) none Set.univ (m := Memref.whole cc1_scratch0) (r := accR) (Finset.subset_univ _)) $$ H
  iintro H
  rw [acc_write f v]
  iapply Hk $$ H

end Cert.KernelIdeal.Hand

end
-- ==== Proof.Loop.lean ====
/- One trip of either multiplying loop. -/
module

public import proofs.«01_k».proof.Proof.Trip

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → main_v1.ty.Contents (Elt F)) (gs : Dev nD → main_v2_1.ty.Contents (Elt F))
  (ws : Dev nD → main_arg1.ty.Contents (Elt F))

/-- Tile `n` read: its slot free again, the accumulator as it was. -/
def Took (c : Dev nD) (n : ℕ) : sProp 𝕄 :=
  iprop(free xs ws c n ∗ fly xs ws c (n + 1) ∗ acc xs ws c n ∗ pend c (n - 6) ∗ homes xs c (n + 1 - 8) ∗ Idle c)

/-- The slots alternate. -/
theorem sl_two (n : ℕ) : sl (n + 2) = sl n := Fin.ext (Nat.add_mod_right n 2)

/-- The two waits for tile `n` and the three loads: the accumulator and the tile of either operand. -/
theorem take_step (c : Dev nD) (n : ℕ) (hn : n < 32) {α : Type} {Q : α → sProp 𝕄} {oa ow oa' ow' : Fin 3 → ℕ} {ha1 ha2 hw1 hw2 hl}
    {ha hw hla hlw hwa hwa' hww hww'} {sa sw : DmaSem sig}
    {k : Vec F S2048x4096 .f32 → Vec F S1x2048x256 .bf16 → Vec F S1x256x4096 .f32 → Prog (TpuEff nD τ sig (Elt F) Λ₀ .tc) α}
    (esa : sa = aSem (sl n)) (esw : sw = wSem (sl n)) (ea : oa' = ![(sl n).val, 0, 0]) (ew : ow' = ![(sl n).val, 0, 0]) :
    Mid xs ws c n
      ⊢ iprop((Took xs ws c n -∗ wp frame (wpE (defs₀ (F := F)) 𝒱₀ c none) Set.univ (k (accAt xs ws c n) (aVec xs c (qn c n)) (wVec (ws c) (qn c n))) Q)
        -∗ wp frame (wpE (defs₀ (F := F)) 𝒱₀ c none) Set.univ
          (.op (.waitDma2 sa (aM oa ha1) (aM oa ha2) hwa hwa') fun _ =>
           .op (.waitDma2 sw (wM ow hw1) (wM ow hw2) hww hww') fun _ =>
           .op (.load (Memref.whole cc1_scratch0) accR.toLoadRect hl) fun v =>
           .op (.load (Memref.whole cc1_scratch1) (Rect.unit (s := S2x2048x256) oa' S1x2048x256.size ha).toLoadRect hla) fun a =>
           .op (.load (Memref.whole cc1_scratch2) (Rect.unit (s := S2x256x4096) ow' S1x256x4096.size hw).toLoadRect hlw) fun b => k v a b) Q) := by
  unfold Mid
  iintro ⟨Hf, Hn, Hacc, Hp, Hh, HO⟩ Hk
  ihave Hf := (fly_open xs ws c hn) $$ Hf
  icases Hf with ⟨Ha, Hw⟩
  unfold aFly wFly
  iapply (fly_wait c (srcw := aM oa ha1) (dstw := aM oa ha2) esa (n := NA) rfl) $$ [Ha HO]
  · isplitl [Ha] <;> iassumption
  iintro ⟨⟨Ha, Hra, Hride⟩, Hva, HO⟩
  iapply (fly_wait c (srcw := wM ow hw1) (dstw := wM ow hw2) esw (n := NW) rfl) $$ [Hw HO]
  · isplitl [Hw] <;> iassumption
  iintro ⟨⟨Hw, Hrw⟩, Hvw, HO⟩
  unfold acc
  iapply (acc_load_step c (accAt xs ws c n)) $$ Hacc
  iintro Hacc
  iapply (a_load_step xs c (sl n) (qn c n) ea) $$ Ha
  iintro Ha
  iapply (w_load_step ws c (sl n) (qn c n) ew) $$ Hw
  iintro Hw
  iapply Hk
  unfold Took free aFree wFree acc aHas wHas
  isplitl [Ha Hra Hva Hw Hrw Hvw]
  · isplitl [Ha Hra Hva]
    · isplitl [Ha]; · iexists _; iexact Ha
      isplitl [Hva] <;> iassumption
    · isplitl [Hw]; · iexists _; iexact Hw
      isplitl [Hvw] <;> iassumption
  isplitl [Hn]; · iexact Hn
  isplitl [Hacc]; · iexact Hacc
  isplitl [Hp]; · iexact Hp
  isplitl [Hride Hh]
  · iapply (ride_home xs c hn)
    isplitl [Hride] <;> iassumption
  iexact HO

/-- The product added: on to the next tile. -/
theorem add_step (c : Dev nD) (n : ℕ) (p : FVec F S2048x4096 .f32) {α : Type} {Q : α → sProp 𝕄} {hl hx hm} {k : PUnit → Prog (TpuEff nD τ sig (Elt F) Λ₀ .tc) α}
    (hp : p = accAt xs ws c (n + 1)) :
    Took xs ws c n
      ⊢ iprop((St xs ws c (n + 1) -∗ wp frame (wpE (defs₀ (F := F)) 𝒱₀ c none) Set.univ (k ⟨⟩) Q)
        -∗ wp frame (wpE (defs₀ (F := F)) 𝒱₀ c none) Set.univ
          (.op (.load (Memref.whole cc1_scratch0) accR.toLoadRect hl) fun _ => .op (.store (Memref.whole cc1_scratch0) accR p Finset.univ hx hm) k) Q) := by
  subst hp
  unfold Took acc
  iintro ⟨Hf, Hn, Hacc, Hp, Hh, HO⟩ Hk
  iapply (acc_load_step c (accAt xs ws c n)) $$ Hacc
  iintro Hacc
  iapply (acc_store_step c (accAt xs ws c n) (accAt xs ws c (n + 1))) $$ Hacc
  iintro Hacc
  iapply Hk
  unfold St acc
  isplitl [Hn]; · iexact Hn
  isplitl [Hf]; · unfold free; rw [sl_two]; iexact Hf
  isplitl [Hacc]; · iexact Hacc
  isplitl [Hp]; · iexact Hp
  isplitl [Hh] <;> iassumption

/-- Past the last piece none is awaited. -/
theorem pend_end (c : Dev nD) : (pend c 24 : sProp 𝕄) = pend c 25 := by
  unfold pend
  exact congrArg (fun s => bigSep s (rTodo c)) (Finset.filter_congr fun j _ => by have := j.isLt; omega)

/-- A part, then the rest. -/
theorem bind_step (c : Dev nD) {α β : Type} {Q : α → sProp 𝕄} (p : Prog (TpuEff nD τ sig (Elt F) Λ₀ .tc) β)
    (k : β → Prog (TpuEff nD τ sig (Elt F) Λ₀ .tc) α) :
    wp frame (wpE (defs₀ (F := F)) 𝒱₀ c none) Set.univ p (fun b => wp frame (wpE (defs₀ (F := F)) 𝒱₀ c none) Set.univ (k b) Q)
      ⊢ wp frame (wpE (defs₀ (F := F)) 𝒱₀ c none) Set.univ (p >>= k) Q := by
  rw [wp_bind]

/-- The first piece received, and its tile of the second operand asked for. -/
theorem part1_run (K : GSem nD τ sig → ℕ) (c : Dev nD) (v2 : BitVec 32) (t : Fin k1_t1_loop.trips) (h2 : k1_cond2 t = 1#1) (Q : (Σ' (_ : BitVec 32), BitVec 32) → sProp 𝕄) :
    iprop(Ctx xs gs K ∗ wFree ws c (sl 8) ∗ pend c 0 ∗ Idle c)
      ⊢ iprop((iprop(wFly ws c (sl 8) (qn c 8) ∗ rHome xs c 0 ∗ pend c 1 ∗ Idle c) -∗ ∀ r, Q r)
        -∗ wp frame (wpE (defs₀ (F := F)) 𝒱₀ c none) Set.univ (onBufs (k1_part1 (F := F)) c v2 t h2) Q) := by
  have ht := (cond2_iff t).1 h2
  iintro ⟨#HC, Hw, Hp, HO⟩ Hk
  sl_unfold [k1_part1]
  iapply (recv_step xs gs K c 0 (sem_recv off17_eq _)) $$ [Hp HO]
  · isplitr; · iexact HC
    isplitl [Hp]; · iexact Hp
    iexact HO
  iintro ⟨Hh, Hp, HO⟩
  iapply (w_start ws c (sl 8) (qn c 8) (qn_lt c (by omega)) (off21_eq c) ((off20_eq t).trans (by rw [ht])) (sem_w ((off19_eq t).trans (by rw [ht])) _)) $$ Hw
  iintro Hw
  iapply (le_wp_ret _ _)
  iapply Hk $$ [Hw Hh Hp HO]
  isplitl [Hw]; · iexact Hw
  isplitl [Hh]; · iexact Hh
  isplitl [Hp]; · iexact Hp
  iexact HO

/-- A conditional whose two branches run into one program: under the condition the branch gets there from `P` with
    `P'`; else `P'` is had at once. -/
theorem join_step {P P' : sProp 𝕄} (c : Dev nD) {C : Prop} (dec : Decidable C) {α : Type} {Q : α → sProp 𝕄}
    (p : C → Prog (TpuEff nD τ sig (Elt F) Λ₀ .tc) α) (q : ¬C → Prog (TpuEff nD τ sig (Elt F) Λ₀ .tc) α) (J : Prog (TpuEff nD τ sig (Elt F) Λ₀ .tc) α)
    (hq : ∀ hc : ¬C, q hc = J)
    (hp : ∀ hc : C, P ⊢ iprop((P' -∗ wp frame (wpE (defs₀ (F := F)) 𝒱₀ c none) Set.univ J Q) -∗ wp frame (wpE (defs₀ (F := F)) 𝒱₀ c none) Set.univ (p hc) Q))
    (hn : ¬C → (P ⊢ P')) :
    P ⊢ iprop((P' -∗ wp frame (wpE (defs₀ (F := F)) 𝒱₀ c none) Set.univ J Q) -∗ wp frame (wpE (defs₀ (F := F)) 𝒱₀ c none) Set.univ (@dite _ C dec p q) Q) := by
  by_cases hc : C
  · rw [dif_pos hc]; exact hp hc
  · rw [dif_neg hc, hq hc]
    iintro HP Hk
    iapply Hk
    iapply (hn hc)
    iexact HP

/-- Between the first loop's two conditionals: the next tile is on its way unless it is a neighbour's. -/
def Half (c : Dev nD) (n : ℕ) : sProp 𝕄 := if n + 1 < 8 then Mid xs ws c n else St xs ws c n

/-- What the first loop's second part returns: the operands of the product. -/
theorem part2_run (K : GSem nD τ sig → ℕ) (c : Dev nD) (v2 x y : BitVec 32) (t : Fin k1_t1_loop.trips)
    (Q : (Σ' (_ : Vec F S2048x4096 .f32) (_ : FVec F S2048x256 .f32) (_ : FVec F S256x4096 .f32), FVec F S2048x4096 .f32) → sProp 𝕄) :
    iprop(Ctx xs gs K ∗ St xs ws c t.val)
      ⊢ iprop((Took xs ws c t.val -∗ Q ⟨accAt xs ws c t.val, k1_pay1 (aVec xs c (qn c t.val)), k1_pay2 (wVec (ws c) (qn c t.val)), constant S2048x4096 .f32 0x00000000#32⟩)
        -∗ wp frame (wpE (defs₀ (F := F)) 𝒱₀ c none) Set.univ (onBufs (k1_part2 (F := F)) c v2 x y t) Q) := by
  have ht8 : t.val < 8 := lt_of_lt_of_eq t.isLt trips1
  unfold k1_pay1 k1_pay2
  iintro ⟨#HC, HS⟩ Hk
  sl_unfold [k1_part2]
  iapply (join_step (P := iprop(St xs ws c t.val)) (P' := Half xs ws c t.val) c _ _ _ _ (fun _ => rfl) ?hp ?hn) $$ HS
  case hp =>
    intro h1
    have ht := (cond1_iff t).1 h1
    unfold Half St free
    rw [if_pos ht]
    iintro ⟨Hf, ⟨Ha, Hw⟩, Hacc, Hp, Hh, HO⟩ Hk
    iapply (w_start ws c (sl (t.val + 1)) (qn c (t.val + 1)) (qn_lt c (by omega)) (off14_eq c t ht) (off13_eq t) (sem_w (off12_eq t) _)) $$ Hw
    iintro Hw
    iapply (a_start xs c (sl (t.val + 1)) (t.val + 1) ht (off16_eq c t ht) (off15_eq t) (sem_a (off12_eq t) _)) $$ Ha
    iintro Ha
    iapply Hk
    unfold Mid
    isplitl [Hf]; · iexact Hf
    isplitl [Ha Hw]
    · iapply (fly_own xs ws c ht)
      isplitl [Ha] <;> iassumption
    isplitl [Hacc]; · iexact Hacc
    isplitl [Hp]; · rw [show t.val - 6 = t.val - 7 by omega]; iexact Hp
    isplitl [Hh] <;> iassumption
  case hn =>
    intro h1
    unfold Half
    rw [if_neg (fun h => h1 ((cond1_iff t).2 h))]
  iintro HS
  iapply (join_step (P := iprop(Ctx xs gs K ∗ Half xs ws c t.val)) (P' := Mid xs ws c t.val) c _ _ _ _ (fun _ => rfl) ?hp ?hn) $$ [HS]
  case hp =>
    intro h2
    have ht := (cond2_iff t).1 h2
    unfold Half St free
    rw [if_neg (by omega), show t.val - 7 = 0 by omega, show t.val + 1 = 8 by omega]
    iintro ⟨#HC, Hf, ⟨Ha, Hw⟩, Hacc, Hp, Hh, HO⟩ Hk
    iapply (bind_step c _ _)
    iapply (part1_run xs gs ws K c v2 t h2 _) $$ [Hw Hp HO]
    · isplitr; · iexact HC
      isplitl [Hw]; · iexact Hw
      isplitl [Hp] <;> iassumption
    unfold rHome
    iintro ⟨Hw, ⟨Hg, Hat⟩, Hp, HO⟩ %r
    iapply (g_start xs c (sl 8) (qn c 8) (atPos ER (recvCell c 0) 1 ∅ 0) (qn_lt c (by omega)) (off18_eq c) ((off22_eq t).trans (by rw [ht])) (sem_a ((off19_eq t).trans (by rw [ht])) _)) $$ [Ha Hg Hat]
    · isplitl [Ha]; · iexact Ha
      isplitl [Hg] <;> iassumption
    iintro Ha
    iapply Hk
    unfold Mid
    rw [show t.val + 1 = 8 + (0 : Fin 24).val by show _ = 8 + 0; omega, show t.val - 6 = 1 by omega]
    isplitl [Hf]; · iexact Hf
    isplitl [Ha Hw]
    · iapply (fly_got xs ws c 0)
      unfold rHome
      isplitl [Ha]; · iexact Ha
      iexact Hw
    isplitl [Hacc]; · iexact Hacc
    isplitl [Hp]; · iexact Hp
    isplitl [Hh] <;> iassumption
  case hn =>
    intro h2
    unfold Half
    rw [if_pos (by have := mt (cond2_iff t).2 h2; omega)]
    iintro ⟨-, H⟩
    iexact H
  · isplitr; · iexact HC
    iexact HS
  iintro HM
  iapply (take_step xs ws c t.val (by omega) (sem_a (off23_eq t) _) (sem_w (off23_eq t) _) (off26_eq t) (off27_eq t)) $$ HM
  iintro HT
  iapply (le_wp_ret _ _)
  ihave HQ := Hk $$ HT
  iexact HQ

/-- A trip of the first loop: one of the device's own tiles multiplied in. -/
theorem trip1_run (K : GSem nD τ sig → ℕ) (c : Dev nD) (v2 : BitVec 32) (t : Fin k1_t1_loop.trips) (u : PUnit) (Q : PUnit → sProp 𝕄) :
    iprop(Ctx xs gs K ∗ St xs ws c t.val)
      ⊢ iprop((St xs ws c (t.val + 1) -∗ ∀ r, Q r)
        -∗ wp frame (wpE (defs₀ (F := F)) 𝒱₀ c none) Set.univ (onBufs (k1_t1_body (F := F)) c v2 t u) Q) := by
  iintro ⟨#HC, HS⟩ Hk
  sl_unfold [k1_t1_body]
  iapply (bind_step c _ _)
  iapply (part2_run xs gs ws K c v2 _ _ t _) $$ [HS]
  · isplitr; · iexact HC
    iexact HS
  iintro HT
  iapply (add_step xs ws c t.val _ rfl) $$ HT
  iintro HS
  iapply (le_wp_ret _ _)
  iapply Hk $$ HS

/-- A later piece received, and its tile of the second operand asked for. -/
theorem part3_run (K : GSem nD τ sig → ℕ) (c : Dev nD) (v2 : BitVec 32) (t : Fin k1_t2_loop.trips) (a : BitVec 32) (h3 : k1_cond3 t = 1#1) (j : Fin 24) (hj : j.val = t.val + 1) (Q : (Σ' (_ : BitVec 32), BitVec 32) → sProp 𝕄) :
    iprop(Ctx xs gs K ∗ wFree ws c (sl (8 + t.val + 1)) ∗ pend c (t.val + 1) ∗ Idle c)
      ⊢ iprop((iprop(wFly ws c (sl (8 + t.val + 1)) (qn c (8 + t.val + 1)) ∗ rHome xs c j ∗ pend c (t.val + 2) ∗ Idle c) -∗ ∀ r, Q r)
        -∗ wp frame (wpE (defs₀ (F := F)) 𝒱₀ c none) Set.univ (onBufs (k1_part3 (F := F)) c v2 t a h3) Q) := by
  have ht := (cond3_iff t).1 h3
  rw [← hj, show t.val + 2 = j.val + 1 by omega]
  iintro ⟨#HC, Hw, Hp, HO⟩ Hk
  sl_unfold [k1_part3]
  iapply (recv_step xs gs K c j (sem_recv ((off28_eq t ht).trans (by rw [hj])) _)) $$ [Hp HO]
  · isplitr; · iexact HC
    isplitl [Hp] <;> iassumption
  iintro ⟨Hh, Hp, HO⟩
  iapply (w_start ws c (sl (8 + t.val + 1)) (qn c (8 + t.val + 1)) (qn_lt c (by omega)) (off32_eq c t ht) (off31_eq t) (sem_w (off30_eq t) _)) $$ Hw
  iintro Hw
  iapply (le_wp_ret _ _)
  iapply Hk $$ [Hw Hh Hp HO]
  isplitl [Hw]; · iexact Hw
  isplitl [Hh]; · iexact Hh
  isplitl [Hp] <;> iassumption

/-- What the second loop's part returns: the accumulator with the product added. -/
theorem part4_run (K : GSem nD τ sig → ℕ) (c : Dev nD) (v2 x y : BitVec 32) (t : Fin k1_t2_loop.trips) (Q : FVec F S2048x4096 .f32 → sProp 𝕄) :
    iprop(Ctx xs gs K ∗ St xs ws c (8 + t.val))
      ⊢ iprop((Took xs ws c (8 + t.val) -∗ Q (k1_pay3 (accAt xs ws c (8 + t.val)) (aVec xs c (qn c (8 + t.val))) (wVec (ws c) (qn c (8 + t.val)))))
        -∗ wp frame (wpE (defs₀ (F := F)) 𝒱₀ c none) Set.univ (onBufs (k1_part4 (F := F)) c v2 x y t) Q) := by
  have ht24 : t.val < 24 := lt_of_lt_of_eq t.isLt trips2
  unfold k1_pay3
  iintro ⟨#HC, HS⟩ Hk
  sl_unfold [k1_part4]
  iapply (join_step (P := iprop(Ctx xs gs K ∗ St xs ws c (8 + t.val))) (P' := Mid xs ws c (8 + t.val)) c _ _ _ _ (fun _ => rfl) ?hp ?hn) $$ [HS]
  case hp =>
    intro h3
    have ht := (cond3_iff t).1 h3
    unfold St free
    rw [show 8 + t.val - 7 = t.val + 1 by omega]
    iintro ⟨#HC, Hf, ⟨Ha, Hw⟩, Hacc, Hp, Hh, HO⟩ Hk
    iapply (bind_step c _ _)
    iapply (part3_run xs gs ws K c v2 t _ h3 ⟨t.val + 1, ht⟩ rfl _) $$ [Hw Hp HO]
    · isplitr; · iexact HC
      isplitl [Hw]; · iexact Hw
      isplitl [Hp] <;> iassumption
    unfold rHome
    iintro ⟨Hw, ⟨Hg, Hat⟩, Hp, HO⟩ %r
    iapply (g_start xs c (sl (8 + t.val + 1)) (qn c (8 + t.val + 1)) (atPos ER (recvCell c ⟨t.val + 1, ht⟩) 1 ∅ 0) (qn_lt c (by omega)) (off29_eq c t ht) (off33_eq t)
      (sem_a (off30_eq t) _)) $$ [Ha Hg Hat]
    · isplitl [Ha]; · iexact Ha
      isplitl [Hg] <;> iassumption
    iintro Ha
    iapply Hk
    unfold Mid
    rw [show 8 + t.val - 6 = t.val + 2 by omega]
    isplitl [Hf]; · iexact Hf
    isplitl [Ha Hw]
    · iapply (fly_got xs ws c ⟨t.val + 1, ht⟩)
      unfold rHome
      isplitl [Ha]; · iexact Ha
      iexact Hw
    isplitl [Hacc]; · iexact Hacc
    isplitl [Hp]; · iexact Hp
    isplitl [Hh] <;> iassumption
  case hn =>
    intro h3
    have ht : t.val = 23 := by have := mt (cond3_iff t).2 h3; omega
    unfold St Mid
    rw [ht]
    iintro ⟨-, Hf, Hs, Hacc, Hp, Hh, HO⟩
    isplitl [Hf]; · iexact Hf
    isplitl [Hs]; · iapply (fly_free xs ws c (le_refl 32)); iexact Hs
    isplitl [Hacc]; · iexact Hacc
    isplitl [Hp]; · iapply (Entails.of_eq (pend_end c)); iexact Hp
    isplitl [Hh] <;> iassumption
  · isplitr; · iexact HC
    iexact HS
  iintro HM
  iapply (take_step xs ws c (8 + t.val) (by omega) (sem_a (off34_eq t) _) (sem_w (off34_eq t) _) (off37_eq t) (off38_eq t)) $$ HM
  iintro HT
  iapply (le_wp_ret _ _)
  ihave HQ := Hk $$ HT
  iexact HQ

/-- A trip of the second loop: one received tile multiplied in. -/
theorem trip2_run (K : GSem nD τ sig → ℕ) (c : Dev nD) (v2 : BitVec 32) (t : Fin k1_t2_loop.trips) (u : PUnit) (Q : PUnit → sProp 𝕄) :
    iprop(Ctx xs gs K ∗ St xs ws c (8 + t.val))
      ⊢ iprop((St xs ws c (8 + (t.val + 1)) -∗ ∀ r, Q r)
        -∗ wp frame (wpE (defs₀ (F := F)) 𝒱₀ c none) Set.univ (onBufs (k1_t2_body (F := F)) c v2 t u) Q) := by
  iintro ⟨#HC, HS⟩ Hk
  sl_unfold [k1_t2_body]
  iapply (bind_step c _ _)
  iapply (part4_run xs gs ws K c v2 _ _ t _) $$ [HS]
  · isplitr; · iexact HC
    iexact HS
  iintro HT
  iapply (add_step xs ws c (8 + t.val) _ rfl) $$ HT
  iintro HS
  iapply (le_wp_ret _ _)
  iapply Hk $$ HS

end Cert.KernelIdeal.Hand

end
-- ==== Proof.Parts.lean ====
/- The parts of the kernel that only start transfers, and the parts that only wait for departures. -/
module

public import proofs.«01_k».proof.Proof.Send

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → main_v1.ty.Contents (Elt F)) (gs : Dev nD → main_v2_1.ty.Contents (Elt F))

/-- Transfers 0 to 1. -/
theorem part6_run (K : GSem nD τ sig → ℕ) (c : Dev nD) (v2 : BitVec 32) (Q : (PUnit) → sProp 𝕄) :
    Ctx xs gs K ⊢ iprop(SendSt xs gs c 0 -∗ (SendSt xs gs c 2 -∗ ∀ r, Q r)
      -∗ wp frame (wpE (defs₀ (F := F)) 𝒱₀ c none) Set.univ (onBufs (k1_part6 (F := F)) c v2) Q) := by
  iintro #HC HS Hk
  sl_unfold [k1_part6]
  iapply (send_step xs gs K c 0 0 1) $$ HC HS; iintro HS
  iapply (send_step xs gs K c 1 1 2) $$ HC HS; iintro HS
  iapply (le_wp_ret _ _)
  iapply Hk $$ HS

/-- Transfers 2 to 4. -/
theorem part7_run (K : GSem nD τ sig → ℕ) (c : Dev nD) (v2 : BitVec 32) (Q : (Σ' (_ : BitVec 32), BitVec 32) → sProp 𝕄) :
    Ctx xs gs K ⊢ iprop(SendSt xs gs c 2 -∗ (SendSt xs gs c 5 -∗ ∀ r, Q r)
      -∗ wp frame (wpE (defs₀ (F := F)) 𝒱₀ c none) Set.univ (onBufs (k1_part7 (F := F)) c v2) Q) := by
  iintro #HC HS Hk
  sl_unfold [k1_part7]
  iapply (send_step xs gs K c 2 2 3) $$ HC HS; iintro HS
  iapply (send_step xs gs K c 3 3 4) $$ HC HS; iintro HS
  iapply (send_step xs gs K c 4 4 5) $$ HC HS; iintro HS
  iapply (le_wp_ret _ _)
  iapply Hk $$ HS

/-- Transfers 5 to 6. -/
theorem part8_run (K : GSem nD τ sig → ℕ) (c : Dev nD) (v2 x y : BitVec 32) (Q : (BitVec 32) → sProp 𝕄) :
    Ctx xs gs K ⊢ iprop(SendSt xs gs c 5 -∗ (SendSt xs gs c 7 -∗ ∀ r, Q r)
      -∗ wp frame (wpE (defs₀ (F := F)) 𝒱₀ c none) Set.univ (onBufs (k1_part8 (F := F)) c v2 x y) Q) := by
  iintro #HC HS Hk
  sl_unfold [k1_part8]
  iapply (send_step xs gs K c 5 5 6) $$ HC HS; iintro HS
  iapply (send_step xs gs K c 6 6 7) $$ HC HS; iintro HS
  iapply (le_wp_ret _ _)
  iapply Hk $$ HS

/-- Transfers 7 to 8. -/
theorem part9_run (K : GSem nD τ sig → ℕ) (c : Dev nD) (v2 x : BitVec 32) (Q : (Σ' (_ : BitVec 32), BitVec 32) → sProp 𝕄) :
    Ctx xs gs K ⊢ iprop(SendSt xs gs c 7 -∗ (SendSt xs gs c 9 -∗ ∀ r, Q r)
      -∗ wp frame (wpE (defs₀ (F := F)) 𝒱₀ c none) Set.univ (onBufs (k1_part9 (F := F)) c v2 x) Q) := by
  iintro #HC HS Hk
  sl_unfold [k1_part9]
  iapply (send_step xs gs K c 7 7 8) $$ HC HS; iintro HS
  iapply (send_step xs gs K c 8 8 9) $$ HC HS; iintro HS
  iapply (le_wp_ret _ _)
  iapply Hk $$ HS

/-- Transfers 9 to 10. -/
theorem part10_run (K : GSem nD τ sig → ℕ) (c : Dev nD) (v2 x y : BitVec 32) (Q : (PUnit) → sProp 𝕄) :
    Ctx xs gs K ⊢ iprop(SendSt xs gs c 9 -∗ (SendSt xs gs c 11 -∗ ∀ r, Q r)
      -∗ wp frame (wpE (defs₀ (F := F)) 𝒱₀ c none) Set.univ (onBufs (k1_part10 (F := F)) c v2 x y) Q) := by
  iintro #HC HS Hk
  sl_unfold [k1_part10]
  iapply (send_step xs gs K c 9 9 10) $$ HC HS; iintro HS
  iapply (send_step xs gs K c 10 10 11) $$ HC HS; iintro HS
  iapply (le_wp_ret _ _)
  iapply Hk $$ HS

/-- Transfers 11 to 13. -/
theorem part11_run (K : GSem nD τ sig → ℕ) (c : Dev nD) (v2 : BitVec 32) (Q : (BitVec 32) → sProp 𝕄) :
    Ctx xs gs K ⊢ iprop(SendSt xs gs c 11 -∗ (SendSt xs gs c 14 -∗ ∀ r, Q r)
      -∗ wp frame (wpE (defs₀ (F := F)) 𝒱₀ c none) Set.univ (onBufs (k1_part11 (F := F)) c v2) Q) := by
  iintro #HC HS Hk
  sl_unfold [k1_part11]
  iapply (send_step xs gs K c 11 11 12) $$ HC HS; iintro HS
  iapply (send_step xs gs K c 12 12 13) $$ HC HS; iintro HS
  iapply (send_step xs gs K c 13 13 14) $$ HC HS; iintro HS
  iapply (le_wp_ret _ _)
  iapply Hk $$ HS

/-- Transfers 14 to 15. -/
theorem part12_run (K : GSem nD τ sig → ℕ) (c : Dev nD) (v2 x : BitVec 32) (Q : (Σ' (_ : BitVec 32), BitVec 32) → sProp 𝕄) :
    Ctx xs gs K ⊢ iprop(SendSt xs gs c 14 -∗ (SendSt xs gs c 16 -∗ ∀ r, Q r)
      -∗ wp frame (wpE (defs₀ (F := F)) 𝒱₀ c none) Set.univ (onBufs (k1_part12 (F := F)) c v2 x) Q) := by
  iintro #HC HS Hk
  sl_unfold [k1_part12]
  iapply (send_step xs gs K c 14 14 15) $$ HC HS; iintro HS
  iapply (send_step xs gs K c 15 15 16) $$ HC HS; iintro HS
  iapply (le_wp_ret _ _)
  iapply Hk $$ HS

/-- Transfers 16 to 17. -/
theorem part13_run (K : GSem nD τ sig → ℕ) (c : Dev nD) (v2 x y : BitVec 32) (Q : (BitVec 32) → sProp 𝕄) :
    Ctx xs gs K ⊢ iprop(SendSt xs gs c 16 -∗ (SendSt xs gs c 18 -∗ ∀ r, Q r)
      -∗ wp frame (wpE (defs₀ (F := F)) 𝒱₀ c none) Set.univ (onBufs (k1_part13 (F := F)) c v2 x y) Q) := by
  iintro #HC HS Hk
  sl_unfold [k1_part13]
  iapply (send_step xs gs K c 16 16 17) $$ HC HS; iintro HS
  iapply (send_step xs gs K c 17 17 18) $$ HC HS; iintro HS
  iapply (le_wp_ret _ _)
  iapply Hk $$ HS

/-- Transfers 18 to 19. -/
theorem part14_run (K : GSem nD τ sig → ℕ) (c : Dev nD) (v2 x : BitVec 32) (Q : (PUnit) → sProp 𝕄) :
    Ctx xs gs K ⊢ iprop(SendSt xs gs c 18 -∗ (SendSt xs gs c 20 -∗ ∀ r, Q r)
      -∗ wp frame (wpE (defs₀ (F := F)) 𝒱₀ c none) Set.univ (onBufs (k1_part14 (F := F)) c v2 x) Q) := by
  iintro #HC HS Hk
  sl_unfold [k1_part14]
  iapply (send_step xs gs K c 18 18 19) $$ HC HS; iintro HS
  iapply (send_step xs gs K c 19 19 20) $$ HC HS; iintro HS
  iapply (le_wp_ret _ _)
  iapply Hk $$ HS

/-- Transfers 20 to 21. -/
theorem part15_run (K : GSem nD τ sig → ℕ) (c : Dev nD) (v2 : BitVec 32) (Q : (PUnit) → sProp 𝕄) :
    Ctx xs gs K ⊢ iprop(SendSt xs gs c 20 -∗ (SendSt xs gs c 22 -∗ ∀ r, Q r)
      -∗ wp frame (wpE (defs₀ (F := F)) 𝒱₀ c none) Set.univ (onBufs (k1_part15 (F := F)) c v2) Q) := by
  iintro #HC HS Hk
  sl_unfold [k1_part15]
  iapply (send_step xs gs K c 20 20 21) $$ HC HS; iintro HS
  iapply (send_step xs gs K c 21 21 22) $$ HC HS; iintro HS
  iapply (le_wp_ret _ _)
  iapply Hk $$ HS

/-- Waits for departures 2 to 6. -/
theorem part18_run (K : GSem nD τ sig → ℕ) (c : Dev nD) (Q : PUnit → sProp 𝕄) :
    Ctx xs gs K ⊢ iprop(WaitSt xs c 2 -∗ (WaitSt xs c 7 -∗ Q ⟨⟩)
      -∗ wp frame (wpE (defs₀ (F := F)) 𝒱₀ c none) Set.univ (onBufs (k1_part18 (F := F)) c) Q) := by
  iintro #HC HS Hk
  sl_unfold [k1_part18]
  iapply (depart_step xs gs K c 2 2 3) $$ HC HS; iintro HS
  iapply (depart_step xs gs K c 3 3 4) $$ HC HS; iintro HS
  iapply (depart_step xs gs K c 4 4 5) $$ HC HS; iintro HS
  iapply (depart_step xs gs K c 5 5 6) $$ HC HS; iintro HS
  iapply (depart_step xs gs K c 6 6 7) $$ HC HS; iintro HS
  iapply (le_wp_ret _ _)
  iapply Hk $$ HS

/-- Waits for departures 7 to 11. -/
theorem part19_run (K : GSem nD τ sig → ℕ) (c : Dev nD) (Q : PUnit → sProp 𝕄) :
    Ctx xs gs K ⊢ iprop(WaitSt xs c 7 -∗ (WaitSt xs c 12 -∗ Q ⟨⟩)
      -∗ wp frame (wpE (defs₀ (F := F)) 𝒱₀ c none) Set.univ (onBufs (k1_part19 (F := F)) c) Q) := by
  iintro #HC HS Hk
  sl_unfold [k1_part19]
  iapply (depart_step xs gs K c 7 7 8) $$ HC HS; iintro HS
  iapply (depart_step xs gs K c 8 8 9) $$ HC HS; iintro HS
  iapply (depart_step xs gs K c 9 9 10) $$ HC HS; iintro HS
  iapply (depart_step xs gs K c 10 10 11) $$ HC HS; iintro HS
  iapply (depart_step xs gs K c 11 11 12) $$ HC HS; iintro HS
  iapply (le_wp_ret _ _)
  iapply Hk $$ HS

/-- Waits for departures 12 to 16. -/
theorem part20_run (K : GSem nD τ sig → ℕ) (c : Dev nD) (Q : PUnit → sProp 𝕄) :
    Ctx xs gs K ⊢ iprop(WaitSt xs c 12 -∗ (WaitSt xs c 17 -∗ Q ⟨⟩)
      -∗ wp frame (wpE (defs₀ (F := F)) 𝒱₀ c none) Set.univ (onBufs (k1_part20 (F := F)) c) Q) := by
  iintro #HC HS Hk
  sl_unfold [k1_part20]
  iapply (depart_step xs gs K c 12 12 13) $$ HC HS; iintro HS
  iapply (depart_step xs gs K c 13 13 14) $$ HC HS; iintro HS
  iapply (depart_step xs gs K c 14 14 15) $$ HC HS; iintro HS
  iapply (depart_step xs gs K c 15 15 16) $$ HC HS; iintro HS
  iapply (depart_step xs gs K c 16 16 17) $$ HC HS; iintro HS
  iapply (le_wp_ret _ _)
  iapply Hk $$ HS

/-- Waits for departures 17 to 21. -/
theorem part21_run (K : GSem nD τ sig → ℕ) (c : Dev nD) (Q : PUnit → sProp 𝕄) :
    Ctx xs gs K ⊢ iprop(WaitSt xs c 17 -∗ (WaitSt xs c 22 -∗ Q ⟨⟩)
      -∗ wp frame (wpE (defs₀ (F := F)) 𝒱₀ c none) Set.univ (onBufs (k1_part21 (F := F)) c) Q) := by
  iintro #HC HS Hk
  sl_unfold [k1_part21]
  iapply (depart_step xs gs K c 17 17 18) $$ HC HS; iintro HS
  iapply (depart_step xs gs K c 18 18 19) $$ HC HS; iintro HS
  iapply (depart_step xs gs K c 19 19 20) $$ HC HS; iintro HS
  iapply (depart_step xs gs K c 20 20 21) $$ HC HS; iintro HS
  iapply (depart_step xs gs K c 21 21 22) $$ HC HS; iintro HS
  iapply (le_wp_ret _ _)
  iapply Hk $$ HS

end Cert.KernelIdeal.Hand

end
-- ==== Proof.Tail.lean ====
/- The loops, the copy of the result out and the waits for the departures. -/
module

public import proofs.«01_k».proof.Proof.Loop
public import proofs.«01_k».proof.Proof.Parts

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → main_v1.ty.Contents (Elt F)) (gs : Dev nD → main_v2_1.ty.Contents (Elt F))
  (ws : Dev nD → main_arg1.ty.Contents (Elt F))

/-- The last two transfers, the accumulator cleared, the first tile of the second operand asked for. -/
theorem part16_run (K : GSem nD τ sig → ℕ) (c : Dev nD) (v2 : BitVec 32) (Q : PUnit → sProp 𝕄) :
    iprop(Ctx xs gs K ∗ SendSt xs gs c 22 ∗ (∃ f, buf c cc1_scratch0 fullShare f) ∗ wFree ws c (sl 0))
      ⊢ iprop((iprop(SendSt xs gs c 24 ∗ acc xs ws c 0 ∗ wFly ws c (sl 0) (qn c 0)) -∗ Q ⟨⟩)
        -∗ wp frame (wpE (defs₀ (F := F)) 𝒱₀ c none) Set.univ (onBufs (k1_part16 (F := F)) c v2) Q) := by
  iintro ⟨#HC, HS, ⟨%f, Ha⟩, Hw⟩ Hk
  sl_unfold [k1_part16]
  iapply (send_step xs gs K c 22 22 23) $$ HC HS; iintro HS
  iapply (send_step xs gs K c 23 23 24) $$ HC HS; iintro HS
  iapply (acc_load_step c f) $$ Ha
  iintro Ha
  iapply (acc_store_step c f (accAt xs ws c 0)) $$ Ha
  iintro Ha
  iapply (w_start ws c (sl 0) (qn c 0) (qn_lt c (by omega)) (off10_eq c) rfl (sem_w (s := sl 0) rfl _)) $$ Hw
  iintro Hw
  iapply (le_wp_ret _ _)
  iapply Hk
  unfold acc
  isplitl [HS]; · iexact HS
  isplitl [Ha] <;> iassumption

/-- The result buffer, holding `f`. -/
abbrev res (c : Dev nD) (f : main_v2_0.ty.Contents (Elt F)) : sProp 𝕄 := buf c main_v2_0 fullShare f

/-- Before and after the loops and the copy out. -/
def Loop0 (c : Dev nD) : sProp 𝕄 :=
  iprop(aFree xs c (sl 0) ∗ wFly ws c (sl 0) (qn c 0) ∗ free xs ws c 1 ∗ acc xs ws c 0 ∗ pend c 0 ∗ Idle c ∗ ∃ f, res c f)
/-- What is held once the result has been copied out. -/
def Loop9 (c : Dev nD) : sProp 𝕄 :=
  iprop(free xs ws c 32 ∗ free xs ws c 33 ∗ acc xs ws c 32 ∗ homes xs c 24 ∗ res c (accAt xs ws c 32))

/-- At the start nothing has been received and used. -/
theorem homes_zero (c : Dev nD) : (homes xs c 0 : sProp 𝕄) = BI.emp := done_zero _

/-- After the last tile no copy is in flight. -/
theorem fly_last (c : Dev nD) : (fly xs ws c (8 + 24) : sProp 𝕄) ⊢ free xs ws c 32 := by
  unfold fly; rw [if_neg (by omega)]
/-- No departure waited for yet. -/
theorem wait_zero (c : Dev nD) : iprop(bigSep Finset.univ (wTodo xs c) ∗ Idle c) ⊢ (WaitSt xs c 0 : sProp 𝕄) := by
  unfold WaitSt Idle
  rw [todo_zero, done_zero]
  iintro ⟨H, HO⟩
  isplitl [H]; · iexact H
  isplitr; · iempintro
  iexact HO

/-- The result's credit. -/
abbrev NO : ℕ := (Memref.whole main_v2_0 : Memref sig .tc _ _ _).view.dmaCredit
/-- The copy of the result credits something. -/
theorem NO_pos : 0 < NO := View.dmaCredit_pos _ (by decide)

/-- The copy of the accumulator to the result, through a free cell. -/
theorem out_start (c : Dev nD) (f g : FVec F S2048x4096 .f32) {α : Type} {Q : α → sProp 𝕄} {sm : DmaSem sig} {hws hwd hty}
    {k : PUnit → Prog (TpuEff nD τ sig (Elt F) Λ₀ .tc) α} (em : sm = aSem (sl 0)) :
    iprop(buf c cc1_scratch0 fullShare f ∗ res c g ∗ semVal ((c : Thread nD τ), .dma (aSem (sl 0))) 0)
      ⊢ iprop((Fly c (aSem (sl 0)) NO iprop(res c f ∗ buf c cc1_scratch0 fullShare f) -∗ wp frame (wpE (defs₀ (F := F)) 𝒱₀ c none) Set.univ (k ⟨⟩) Q)
        -∗ wp frame (wpE (defs₀ (F := F)) 𝒱₀ c none) Set.univ
          (.op (.enqueueDma (Memref.whole cc1_scratch0) (.here (Memref.whole main_v2_0)) (.dma sm) hws hwd hty) k) Q) := by
  subst em
  have hset : (Memref.whole cc1_scratch0 : Memref sig .tc _ _ _).view.set = Finset.univ := View.set_whole _
  have hwr : (Memref.whole main_v2_0 : Memref sig .tc _ _ _).view.write (Elt F) g f Finset.univ = f := View.write_whole_univ (Val := Elt F) main_v2_0 g f
  iintro ⟨Hs, Hd, Hv⟩ Hk
  iapply (Transfers.wp_dmaLocal EC 𝒱₀ (c : Thread nD τ) none (src := Memref.whole cc1_scratch0) (dst := Memref.whole main_v2_0) (sm := .dma (aSem (sl 0)))
      (Sd := Finset.univ) (fd := g) (fs := f) (q := fullShare) () NO rfl NO_pos (Finset.subset_univ _)) $$ [Hs Hd Hv]
  · isplitl [Hs]; · rw [hset]; iexact Hs
    isplitl [Hd]; · iexact Hd
    iexact Hv
  iintro HF
  iapply Hk
  unfold Fly
  iexists _
  isplitl [HF]; · iexact HF
  rw [hset]
  iintro ⟨Hd, Hs⟩
  isplitl [Hd]; · iapply (Entails.of_eq (congrArg (res c) hwr)); iexact Hd
  iexact Hs

/-- The first tile of the first operand, both loops, the copy out, and the first two departures. -/
theorem part17_run (K : GSem nD τ sig → ℕ) (c : Dev nD) (v2 : BitVec 32) (Q : PUnit → sProp 𝕄) :
    iprop(Ctx xs gs K ∗ Loop0 xs ws c ∗ bigSep Finset.univ (wTodo xs c))
      ⊢ iprop((iprop(WaitSt xs c 2 ∗ Loop9 xs ws c) -∗ Q ⟨⟩)
        -∗ wp frame (wpE (defs₀ (F := F)) 𝒱₀ c none) Set.univ (onBufs (k1_part17 (F := F)) c v2) Q) := by
  unfold Loop0
  iintro ⟨#HC, ⟨Ha, Hw, Hf, Hacc, Hp, HO, ⟨%f0, Hr⟩⟩, HT⟩ Hk
  sl_unfold [k1_part17]
  iapply (a_start xs c (sl 0) 0 (by omega) (off11_eq c) rfl (sem_a (s := sl 0) rfl _)) $$ Ha
  iintro Ha
  iapply (Scf.wp_for_bind _ _ _ _ _ _ _ _ _ (fun n (_ : PUnit) => iprop(Ctx xs gs K ∗ St xs ws c n)) ?h1) $$ [Ha Hw Hf Hacc Hp HO]
  case h1 =>
    intro t u
    iintro ⟨#HC, HS⟩
    iapply (trip1_run xs gs ws K c v2 t u _) $$ [HS]
    · isplitr; · iexact HC
      iexact HS
    iintro HS %_
    isplitr; · iexact HC
    iexact HS
  · isplitr; · iexact HC
    unfold St
    isplitl [Ha Hw]
    · iapply (fly_own xs ws c (by omega))
      isplitl [Ha] <;> iassumption
    isplitl [Hf]; · iexact Hf
    isplitl [Hacc]; · iexact Hacc
    isplitl [Hp]; · iexact Hp
    isplitr [HO]
    · rw [homes_zero]; iempintro
    iexact HO
  iintro %u ⟨-, HS⟩
  iapply (Scf.wp_for_bind _ _ _ _ _ _ _ _ _ (fun n (_ : PUnit) => iprop(Ctx xs gs K ∗ St xs ws c (8 + n))) ?h2) $$ [HS]
  case h2 =>
    intro t u
    iintro ⟨#HC, HS⟩
    iapply (trip2_run xs gs ws K c v2 t u _) $$ [HS]
    · isplitr; · iexact HC
      iexact HS
    iintro HS %_
    isplitr; · iexact HC
    iexact HS
  · isplitr; · iexact HC
    iapply (Entails.of_eq (congrArg (St xs ws c) trips1)); iexact HS
  iintro %u ⟨-, HS⟩
  ihave HS := (Entails.of_eq (congrArg (fun n => St xs ws c (8 + n)) trips2)) $$ HS
  unfold St acc
  icases HS with ⟨Hf, Hg, Hacc, -, Hh, HO⟩
  ihave Hf := (fly_last xs ws c) $$ Hf
  unfold free aFree
  icases Hf with ⟨⟨Ha, Hv, Har⟩, Hw⟩
  iapply (out_start c (accAt xs ws c 32) f0 (sem_a (s := sl 0) rfl _)) $$ [Hacc Hr Hv]
  · isplitl [Hacc]; · iexact Hacc
    isplitl [Hr]; · iexact Hr
    iexact Hv
  iintro HF
  iapply (fly_wait c (srcw := Memref.whole cc1_scratch0) (dstw := Memref.whole main_v2_0) (sem_a (s := sl 0) rfl _) (n := NO) rfl) $$ [HF HO]
  · isplitl [HF] <;> iassumption
  iintro ⟨⟨Hr, Hacc⟩, Hv, HO⟩
  ihave HT := (wait_zero xs c) $$ [HT HO]
  · isplitl [HT] <;> iassumption
  iapply (depart_step xs gs K c 0 0 1) $$ HC HT; iintro HT
  iapply (depart_step xs gs K c 1 1 2) $$ HC HT; iintro HT
  iapply (le_wp_ret _ _)
  iapply Hk
  isplitl [HT]; · iexact HT
  unfold Loop9 free aFree acc
  isplitl [Ha Hv Har Hw]
  · isplitl [Ha Hv Har]
    · isplitl [Ha]; · iexact Ha
      isplitl [Hv]; · iexact Hv
      iexact Har
    iexact Hw
  isplitl [Hg]; · iexact Hg
  isplitl [Hacc]; · iexact Hacc
  isplitl [Hh]; · iexact Hh
  iexact Hr

end Cert.KernelIdeal.Hand

end
-- ==== Proof.Body.lean ====
/- The talking kernel's body, from the barrier to the last departure. -/
module

public import proofs.«01_k».proof.Proof.Start
public import proofs.«01_k».proof.Proof.Tail

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → main_v1.ty.Contents (Elt F)) (gs : Dev nD → main_v2_1.ty.Contents (Elt F))
  (ws : Dev nD → main_arg1.ty.Contents (Elt F))

/-- What transfer `j` needs besides its place on the receiver. -/
def sTok (c : Dev nD) (j : Fin 24) : sProp 𝕄 :=
  iprop(dutyTok ER (recvCell (tgt c j) j) 0 0 ∗ dutyTok ER (sendCell c j) 0 0 ∗ reached ER (sendCell c j) 0 ∗ part c main_v1 Finset.univ (tok j) (xs c))

/-- The place to write to and the slot token make transfer `j` ready to start. -/
theorem sTodo_of (c : Dev nD) (j : Fin 24) : iprop(slotOf gs (tgt c j) j ∗ sTok xs c j) ⊢ (sTodo xs gs c j : sProp 𝕄) := by
  unfold sTodo sTok
  iintro ⟨Hs, Ht, Hd, Hr, Hp⟩
  isplitl [Ht]; · iexact Ht
  isplitl [Hd]; · iexact Hd
  isplitl [Hr]; · iexact Hr
  isplitl [Hs] <;> iassumption

/-- What the core holds before the body, and after it. -/
def Pre (c : Dev nD) : sProp 𝕄 :=
  iprop(Greet gs c ∗ bigSep Finset.univ (sTok xs c) ∗ bigSep Finset.univ (fun j : Fin 24 => atPos ER (sendCell c j) 0 ∅ 0)
    ∗ bigSep Finset.univ (rTodo c) ∗ free xs ws c 0 ∗ free xs ws c 1 ∗ (∃ f, buf c cc1_scratch0 fullShare f) ∗ ∃ f, res c f)
/-- What the body of the second kernel ends with. -/
def Post (c : Dev nD) : sProp 𝕄 :=
  iprop(bigSep Finset.univ (wDone xs c) ∗ Loop9 xs ws c ∗ atPos ER (barCell c) 1 ∅ 0 ∗ Idle c)

/-- All places in hand: the transfers may start. -/
theorem send_zero (c : Dev nD) :
    iprop(bigSep Finset.univ (fun j : Fin 24 => slotOf gs (tgt c j) j) ∗ bigSep Finset.univ (sTok xs c) ∗ ∃ W, owes (c : Thread nD τ) (Ofrom c 0) W)
      ⊢ (SendSt xs gs c 0 : sProp 𝕄) := by
  have h : (bigSep Finset.univ fun j : Fin 24 => iprop(slotOf gs (tgt c j) j ∗ sTok xs c j)) ⊢ (bigSep Finset.univ (sTodo xs gs c) : sProp 𝕄) :=
    bigSep_mono fun j _ => sTodo_of xs gs c j
  unfold SendSt
  rw [todo_zero, done_zero]
  iintro ⟨Hs, Ht, HO⟩
  isplitl [Hs Ht]
  · iapply h
    rw [bigSep_sep']
    isplitl [Hs] <;> iassumption
  isplitr; · iempintro
  iexact HO

/-- All started: nothing more is owed, and every departure may be waited for. -/
theorem send_last (c : Dev nD) :
    iprop(SendSt xs gs c 24 ∗ bigSep Finset.univ (fun j : Fin 24 => atPos ER (sendCell c j) 0 ∅ 0))
      ⊢ (iprop(bigSep Finset.univ (wTodo xs c) ∗ Idle c) : sProp 𝕄) := by
  unfold SendSt Idle
  rw [todo_last, done_last, Ofrom_last]
  iintro ⟨⟨-, Hd, HO⟩, Ha⟩
  isplitl [Hd Ha]
  · unfold wTodo
    rw [bigSep_sep']
    isplitl [Ha] <;> iassumption
  iexact HO

/-- After the last of the 24 waits every transfer sent is done. -/
theorem wait_last (c : Dev nD) : (WaitSt xs c 24 : sProp 𝕄) ⊢ iprop(bigSep Finset.univ (wDone xs c) ∗ Idle c) := by
  unfold WaitSt Idle
  rw [todo_last, done_last]
  iintro ⟨-, H, HO⟩
  isplitl [H] <;> iassumption

/-- At the start all 24 arrivals are still to come. -/
theorem pend_zero (c : Dev nD) : (pend c 0 : sProp 𝕄) = bigSep Finset.univ (rTodo c) := todo_zero _

set_option maxHeartbeats 1000000 in
/-- The talking kernel's body. -/
theorem body_run (K : GSem nD τ sig → ℕ) (c : Dev nD) (Q : PUnit → sProp 𝕄) :
    iprop(Ctx xs gs K ∗ Pre xs gs ws c)
      ⊢ iprop((Post xs ws c -∗ Q ⟨⟩) -∗ wp frame (wpE (defs₀ (F := F)) 𝒱₀ c none) Set.univ (onBufs (cc1__fused_body (F := F))) Q) := by
  unfold Pre
  iintro ⟨#HC, HG, HT, Hat, Hp, Hf0, Hf1, Hacc, Hr⟩ Hk
  sl_unfold [cc1__fused_body]
  iapply (bind_step c _ _)
  iapply (part5_run xs gs K c _) $$ [HG]
  · isplitr; · iexact HC
    iexact HG
  unfold Met
  iintro ⟨Hs, Hb, HO⟩ %v2
  ihave HS := (send_zero xs gs c) $$ [Hs HT HO]
  · isplitl [Hs]; · iexact Hs
    isplitl [HT] <;> iassumption
  iapply (bind_step c _ _)
  iapply (part6_run xs gs K c _ _) $$ HC HS
  iintro HS %_
  iapply (bind_step c _ _)
  iapply (part7_run xs gs K c _ _) $$ HC HS
  iintro HS %_
  iapply (bind_step c _ _)
  iapply (part8_run xs gs K c _ _ _ _) $$ HC HS
  iintro HS %_
  iapply (bind_step c _ _)
  iapply (part9_run xs gs K c _ _ _) $$ HC HS
  iintro HS %_
  iapply (bind_step c _ _)
  iapply (part10_run xs gs K c _ _ _ _) $$ HC HS
  iintro HS %_
  iapply (bind_step c _ _)
  iapply (part11_run xs gs K c _ _) $$ HC HS
  iintro HS %_
  iapply (bind_step c _ _)
  iapply (part12_run xs gs K c _ _ _) $$ HC HS
  iintro HS %_
  iapply (bind_step c _ _)
  iapply (part13_run xs gs K c _ _ _ _) $$ HC HS
  iintro HS %_
  iapply (bind_step c _ _)
  iapply (part14_run xs gs K c _ _ _) $$ HC HS
  iintro HS %_
  iapply (bind_step c _ _)
  iapply (part15_run xs gs K c _ _) $$ HC HS
  iintro HS %_
  unfold free
  icases Hf0 with ⟨Ha0, Hw0⟩
  iapply (bind_step c _ _)
  iapply (part16_run xs gs ws K c _ _) $$ [HS Hacc Hw0]
  · isplitr; · iexact HC
    isplitl [HS]; · iexact HS
    isplitl [Hacc] <;> iassumption
  iintro ⟨HS, Hacc, Hw0⟩
  ihave HS := (send_last xs gs c) $$ [HS Hat]
  · isplitl [HS] <;> iassumption
  icases HS with ⟨HS, HO⟩
  iapply (bind_step c _ _)
  iapply (part17_run xs gs ws K c _ _) $$ [HS HO Hacc Hw0 Ha0 Hf1 Hp Hr]
  · isplitr; · iexact HC
    isplitr [HS]
    · unfold Loop0 free
      rw [pend_zero]
      isplitl [Ha0]; · iexact Ha0
      isplitl [Hw0]; · iexact Hw0
      isplitl [Hf1]; · iexact Hf1
      isplitl [Hacc]; · iexact Hacc
      isplitl [Hp]; · iexact Hp
      isplitl [HO] <;> iassumption
    iexact HS
  iintro ⟨HS, HL⟩
  iapply (bind_step c _ _)
  iapply (part18_run xs gs K c _) $$ HC HS
  iintro HS
  iapply (bind_step c _ _)
  iapply (part19_run xs gs K c _) $$ HC HS
  iintro HS
  iapply (bind_step c _ _)
  iapply (part20_run xs gs K c _) $$ HC HS
  iintro HS
  iapply (bind_step c _ _)
  iapply (part21_run xs gs K c _) $$ HC HS
  iintro HS
  iapply (depart_step xs gs K c 22 22 23) $$ HC HS; iintro HS
  iapply (depart_step xs gs K c 23 23 24) $$ HC HS; iintro HS
  ihave HS := (wait_last xs c) $$ HS
  icases HS with ⟨HS, HO⟩
  iapply (le_wp_ret _ _)
  iapply Hk
  unfold Post
  isplitl [HS]; · iexact HS
  isplitl [HL]; · iexact HL
  isplitl [Hb] <;> iassumption

end Cert.KernelIdeal.Hand

end
-- ==== Proof.Split.lean ====
/- How what a device holds at the start of the second kernel divides among the copies, and comes together at the end:
   the counters, the read shares of the operands, the gathered rows by tile, the staging buffers by slot. -/
module

public import proofs.«01_k».proof.Proof.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → main_v1.ty.Contents (Elt F)) (gs : Dev nD → main_v2_1.ty.Contents (Elt F))
  (ws : Dev nD → main_arg1.ty.Contents (Elt F))

/-! ## The counters the second kernel uses -/

/-- A name for each: the copies' into the two staging buffers, the sends', the arrivals'. -/
abbrev KS : Type := (Fin 2 ⊕ Fin 2) ⊕ (Fin 24 ⊕ Fin 24)
/-- The counter of each name. -/
def osem : KS → SemLoc sig
  | .inl (.inl s) => .dma (aSem s)
  | .inl (.inr s) => .dma (wSem s)
  | .inr (.inl j) => .dma (sendSem j)
  | .inr (.inr j) => .dma (recvSem j)

/-- They are scoped, different from each other and from the staging counters of the second kernel (it has none). -/
theorem osem_facts : Pipeline.OwnSemFacts spec1 osem := by decide +kernel

/-- All of them at zero, by group. -/
theorem ownSems_eq (c : Dev nD) : (Pipeline.ownSems0 osem c : sProp 𝕄)
    = iprop(((semVal ((c : Thread nD τ), .dma (aSem 0)) 0 ∗ semVal ((c : Thread nD τ), .dma (aSem 1)) 0)
        ∗ (semVal ((c : Thread nD τ), .dma (wSem 0)) 0 ∗ semVal ((c : Thread nD τ), .dma (wSem 1)) 0))
      ∗ (bigSep Finset.univ (fun j => semVal (sendCell c j) 0) ∗ bigSep Finset.univ (fun j => semVal (recvCell c j) 0))) := by
  unfold Pipeline.ownSems0
  rw [bigSep_univ_sum, bigSep_univ_sum, bigSep_univ_sum, bigSep_fin_two, bigSep_fin_two]
  rfl

/-! ## The read shares -/

/-- The rounded operand: one read share for each send, one for each slot of the staging buffer, and what remains. -/
theorem x_deal (c : Dev nD) : (buf c main_v1 fullShare (xs c) : sProp 𝕄)
    = iprop(buf c main_v1 (Transfers.shareDrop fullShare 26) (xs c)
      ∗ bigSep Finset.univ (fun j : Fin 24 => part c main_v1 Finset.univ (tok j) (xs c)) ∗ aRest xs c 0 ∗ aRest xs c 1) := by
  have h := (Transfers.pointsTo_toks (Ix := Unit) (Name := ℕ) (U := UU) (Lvl := ℕ)
    (ℓ := (c : Thread nD τ).loc main_v1) (S := Finset.univ) (f := xs c) fullShare 26)
  have h := BI.equiv_iff.mp ⟨h.1, h.2⟩
  refine h.trans ?_
  rw [bigSep_univ_equiv (finSumFinEquiv (m := 24) (n := 2)), bigSep_univ_sum, bigSep_fin_two]
  rfl

/-- The second operand: a read share for each slot of its staging buffer, and what remains. -/
theorem w_deal (c : Dev nD) : (buf c main_arg1 fullShare (ws c) : sProp 𝕄)
    = iprop(buf c main_arg1 (Transfers.shareDrop fullShare 2) (ws c) ∗ wRest ws c 0 ∗ wRest ws c 1) := by
  have h := (Transfers.pointsTo_toks (Ix := Unit) (Name := ℕ) (U := UU) (Lvl := ℕ)
    (ℓ := (c : Thread nD τ).loc main_arg1) (S := Finset.univ) (f := ws c) fullShare 2)
  have h := BI.equiv_iff.mp ⟨h.1, h.2⟩
  refine h.trans ?_
  rw [bigSep_fin_two]
  rfl

/-! ## The gathered rows by column tile -/

/-- The 32 tiles of device `c`: its own eight, and the one each arrival fills. -/
def qnF (c : Dev nD) : Fin 8 ⊕ Fin 24 → Fin 32
  | .inl k => ⟨8 * c.val + k.val, by have := dev_lt c; omega⟩
  | .inr j => ⟨qn c (8 + j.val), qn_lt c (by omega)⟩
/-- Each tile once. -/
theorem qnF_bij : ∀ c : Dev nD, Function.Bijective (qnF c) := by decide +kernel

/-- The gathered rows held whole are held tile by tile. -/
theorem g_deal (c : Dev nD) (f : main_v2_1.ty.Contents (Elt F)) : (buf c main_v2_1 fullShare f : sProp 𝕄)
    = iprop(bigSep Finset.univ (fun k : Fin 8 => part c main_v2_1 (colSet (8 * c.val + k.val)) fullShare f)
      ∗ bigSep Finset.univ (fun j : Fin 24 => part c main_v2_1 (colSet (qn c (8 + j.val))) fullShare f)) := by
  have h : (buf c main_v2_1 fullShare f : sProp 𝕄)
      = bigSep Finset.univ fun q : Fin 32 => part c main_v2_1 (colSet q.val) fullShare f := by
    refine (congrArg (fun S => (part c main_v2_1 S fullShare f : sProp 𝕄)) colSet_biUnion.symm).trans ?_
    exact pointsTo_biUnion (ℓ := (c : Thread nD τ).loc main_v2_1) Finset.univ (fun q : Fin 32 => colSet q.val)
      fun t _ t' _ ht => colSet_disj fun e => ht (Fin.ext e)
  rw [h, bigSep_univ_equiv (Equiv.ofBijective (qnF c) (qnF_bij c)), bigSep_univ_sum]
  rfl

/-- What the buffer of gathered rows ends with: on the own columns what it held, elsewhere the rows received. -/
def gOut (c : Dev nD) : main_v2_1.ty.Contents (Elt F) := fun i => if (i 1).val / 256 / 8 = c.val then gs c i else Xa xs c i

/-- A tile that another device sends lies off the own columns. -/
theorem qn_recv_ne (c : Dev nD) (j : Fin 24) : qn c (8 + j.val) / 8 ≠ c.val := by
  revert c j; decide +kernel

/-- The own tiles as they were and the tiles received make the whole buffer. -/
theorem g_join (c : Dev nD) :
    iprop(bigSep Finset.univ (fun k : Fin 8 => part c main_v2_1 (colSet (8 * c.val + k.val)) fullShare (gs c))
      ∗ bigSep Finset.univ (fun j : Fin 24 => part c main_v2_1 (colSet (qn c (8 + j.val))) fullShare (Xa xs c)))
    = (buf c main_v2_1 fullShare (gOut xs gs c) : sProp 𝕄) := by
  rw [g_deal]
  congr 1
  · refine bigSep_congr fun k _ => pointsTo_congr fun i hi => ?_
    have e : (i 1).val / 256 = 8 * c.val + k.val := (Finset.mem_filter.mp hi).2
    exact (if_pos (by omega)).symm
  · refine bigSep_congr fun j _ => pointsTo_congr fun i hi => ?_
    have e : (i 1).val / 256 = qn c (8 + j.val) := (Finset.mem_filter.mp hi).2
    exact (if_neg (by rw [e]; exact qn_recv_ne c j)).symm

/-! ## The two slots of each staging buffer -/

/-- A buffer at any contents is two disjoint parts that cover it, each at any contents; -/
theorem two_slots (c : Dev nD) (b : Ref sig .tc) {S T : Finset b.ty.shape.Idx} (hd : Disjoint S T) (hu : S ∪ T = Finset.univ) :
    iprop(∃ f, buf c b fullShare f) ⊢ (iprop((∃ f, part c b S fullShare f) ∗ ∃ f, part c b T fullShare f) : sProp 𝕄) := by
  iintro ⟨%f, H⟩
  have h := (pointsTo_union (Ix := Unit) (Name := ℕ) (U := UU) (Lvl := ℕ) (ℓ := (c : Thread nD τ).loc b) (f := f) (q := fullShare) hd).1
  rw [hu] at h
  ihave H := h $$ H
  icases H with ⟨H0, H1⟩
  isplitl [H0]
  · iexists f; iexact H0
  iexists f; iexact H1
/-- and back. -/
theorem one_whole (c : Dev nD) (b : Ref sig .tc) {S T : Finset b.ty.shape.Idx} (hd : Disjoint S T) (hu : S ∪ T = Finset.univ) :
    iprop((∃ f, part c b S fullShare f) ∗ ∃ f, part c b T fullShare f) ⊢ (iprop(∃ f, buf c b fullShare f) : sProp 𝕄) := by
  iintro ⟨⟨%f, H0⟩, ⟨%g, H1⟩⟩
  have h := pointsTo_join (Ix := Unit) (Name := ℕ) (U := UU) (Lvl := ℕ) (ℓ := (c : Thread nD τ).loc b) (f := f) (g := g) (q := fullShare) hd
  rw [hu] at h
  iexists _
  iapply h
  isplitl [H0]; · iexact H0
  iexact H1

end Cert.KernelIdeal.Hand

end
-- ==== Proof.Talk.lean ====
/- The second kernel between its two ends: the cells opened, everything dealt out to the copies, the body, everything
   gathered again and the cells closed. -/
module

public import proofs.«01_k».proof.Proof.Split
public import Idealize.ShloMosaic.Lib.Rounds.Family

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → main_v1.ty.Contents (Elt F)) (gs : Dev nD → main_v2_1.ty.Contents (Elt F))
  (ws : Dev nD → main_arg1.ty.Contents (Elt F))

/-! ## What the launch leaves a device for the second kernel -/

/-- The right to open each send and arrival cell of the device. -/
def Shut (c : Dev nD) : sProp 𝕄 :=
  iprop(bigSep Finset.univ (fun j : Fin 24 => openTok ER (sendCell c j)) ∗ bigSep Finset.univ (fun j : Fin 24 => openTok ER (recvCell c j)))
/-- Each of them open, at its start. -/
def Opened (c : Dev nD) : sProp 𝕄 :=
  iprop(bigSep Finset.univ (fun j : Fin 24 => iprop(atPos ER (sendCell c j) 0 ∅ 0 ∗ reached ER (sendCell c j) 0))
    ∗ bigSep Finset.univ (fun j : Fin 24 => iprop(atPos ER (recvCell c j) 0 ∅ 0 ∗ reached ER (recvCell c j) 0)))
/-- The duties the device pays: a signal to each other device's barrier, each send's departure and its arrival. -/
def Duties (c : Dev nD) : sProp 𝕄 :=
  iprop(bigSep ({1, 2, 3} : Finset ℕ) (fun d => dutyTok ER (barCell (fwd c d)) 0 d)
    ∗ bigSep Finset.univ (fun j : Fin 24 => iprop(dutyTok ER (recvCell (tgt c j) j) 0 0 ∗ dutyTok ER (sendCell c j) 0 0)))
/-- What it may wait for: three signals, and each arrival. -/
def Creds (c : Dev nD) : sProp 𝕄 :=
  iprop(cred (tallyAt (barCell c) () 3) ∗ bigSep Finset.univ (fun j : Fin 24 => cred (tallyAt (recvCell c j) () N)))
/-- The copies' own counters at zero. -/
def Local (c : Dev nD) : sProp 𝕄 :=
  iprop((semVal ((c : Thread nD τ), .dma (aSem 0)) 0 ∗ semVal ((c : Thread nD τ), .dma (aSem 1)) 0)
    ∗ (semVal ((c : Thread nD τ), .dma (wSem 0)) 0 ∗ semVal ((c : Thread nD τ), .dma (wSem 1)) 0))

/-- All of it, before the kernel's counters are at hand; -/
def Tk (c : Dev nD) : sProp 𝕄 :=
  iprop(∃ K, Ctx xs gs K ∗ Shut c ∗ Duties c ∗ atPos ER (barCell c) 0 ∅ 0 ∗ Creds c)
/-- and once they are and the cells are open. -/
def Xk (c : Dev nD) : sProp 𝕄 :=
  iprop(∃ K, Ctx xs gs K ∗ Opened c ∗ Duties c ∗ atPos ER (barCell c) 0 ∅ 0 ∗ Creds c ∗ Local c ∗ levAts L lv)

/-- Any of a device's own cells, from what every device knows. -/
theorem Ctx_each (K : GSem nD τ sig → ℕ) (g : Fin 24 → GSem nD τ sig) (P : Fin 24 → sProp 𝕄)
    (h : ∀ j, Ctx xs gs K ⊢ (cellInv ER (talkRd xs gs) (K (g j)) (g j) : sProp 𝕄)) :
    iprop(Ctx xs gs K ∗ bigSep Finset.univ P)
      ⊢ bigSep Finset.univ fun j => iprop(cellInv ER (talkRd xs gs) (K (g j)) (g j) ∗ P j) :=
  bigSep_with_persistent fun j _ => BIClass.sep_mono (h j) (Entails.of_eq rfl)

/-- A family of a device's cells is opened. -/
theorem open_each (K : GSem nD τ sig → ℕ) (g : Fin 24 → GSem nD τ sig)
    (h : ∀ j, Ctx xs gs K ⊢ (cellInv ER (talkRd xs gs) (K (g j)) (g j) : sProp 𝕄)) :
    iprop(Ctx xs gs K ∗ bigSep Finset.univ (fun j => openTok ER (g j)) ∗ bigSep Finset.univ (fun j => semVal (g j) 0))
      ⊢ (|={Set.univ}=> bigSep Finset.univ fun j => iprop(atPos ER (g j) 0 ∅ 0 ∗ reached ER (g j) 0) : sProp 𝕄) := by
  iintro ⟨#HC, Ho, Hv⟩
  iapply (Rounds.cells_open ER (talkRd xs gs) Finset.univ g (fun j => K (g j)) (fun _ _ => Set.mem_univ _))
  isplitl [Ho]
  · iapply (Ctx_each xs gs K g _ h)
    isplitr; · iexact HC
    iexact Ho
  iexact Hv

/-- A family of a device's cells is closed, each counter back at zero. -/
theorem close_each (K : GSem nD τ sig → ℕ) (g : Fin 24 → GSem nD τ sig)
    (h : ∀ j, Ctx xs gs K ⊢ (cellInv ER (talkRd xs gs) (K (g j)) (g j) : sProp 𝕄)) :
    iprop(Ctx xs gs K ∗ bigSep Finset.univ (fun j => atPos ER (g j) 1 ∅ 0))
      ⊢ (|={Set.univ}=> bigSep Finset.univ fun j => semVal (g j) 0 : sProp 𝕄) :=
  (Ctx_each xs gs K g _ h).trans
    (Rounds.cells_close ER (talkRd xs gs) Finset.univ g (fun j => K (g j)) (fun _ _ => Set.mem_univ _) (fun _ _ => id) (fun _ => 1)
      (fun j _ => duties_later xs gs (g j)))

/-- The send and arrival cells are opened with their counters. -/
theorem hopen (c : Dev nD) : iprop(Tk xs gs c ∗ Pipeline.ownSems0 osem c ∗ levAts L lv) ⊢ (|={Set.univ}=> Xk xs gs c : sProp 𝕄) := by
  rw [ownSems_eq]
  unfold Tk Xk Shut Opened Local
  iintro ⟨⟨%K, #HC, ⟨Ho, Ho'⟩, HD, Hb, Hc⟩, ⟨Hl, ⟨Hs, Hr⟩⟩, Hlev⟩
  imod (open_each xs gs K (sendCell c) (Ctx_send xs gs K c)) $$ [Ho Hs] with HS
  · isplitr; · iexact HC
    isplitl [Ho] <;> iassumption
  imod (open_each xs gs K (recvCell c) (Ctx_recv xs gs K c)) $$ [Ho' Hr] with HR
  · isplitr; · iexact HC
    isplitl [Ho'] <;> iassumption
  imodintro
  iexists K
  isplitr; · iexact HC
  isplitl [HS HR]; · isplitl [HS] <;> iassumption
  isplitl [HD]; · iexact HD
  isplitl [Hb]; · iexact Hb
  isplitl [Hc]; · iexact Hc
  isplitl [Hl]; · iexact Hl
  iexact Hlev

/-! ## The kernel between its two ends -/

/-- The buffers the second kernel works on, at entry; -/
def Before (c : Dev nD) : sProp 𝕄 :=
  iprop((∃ f, buf c cc1_scratch0 fullShare f) ∗ (∃ f, buf c cc1_scratch1 fullShare f) ∗ (∃ f, buf c cc1_scratch2 fullShare f)
    ∗ buf c main_arg1 fullShare (ws c) ∗ buf c main_v1 fullShare (xs c) ∗ (∃ f, res c f) ∗ buf c main_v2_1 fullShare (gs c))
/-- and at exit: the operands as they were, the result computed. -/
def After (c : Dev nD) : sProp 𝕄 :=
  iprop((∃ f, buf c cc1_scratch0 fullShare f) ∗ (∃ f, buf c cc1_scratch1 fullShare f) ∗ (∃ f, buf c cc1_scratch2 fullShare f)
    ∗ buf c main_arg1 fullShare (ws c) ∗ buf c main_v1 fullShare (xs c) ∗ res c (accAt xs ws c 32) ∗ buf c main_v2_1 fullShare (gOut xs gs c))

/-- What stays with the core meanwhile: what remains of the read shares, and the own tiles. -/
def Kept (c : Dev nD) : sProp 𝕄 :=
  iprop(buf c main_arg1 (Transfers.shareDrop fullShare 2) (ws c) ∗ buf c main_v1 (Transfers.shareDrop fullShare 26) (xs c)
    ∗ bigSep Finset.univ (fun k : Fin 8 => part c main_v2_1 (colSet (8 * c.val + k.val)) fullShare (gs c)))

/-- At entry everything is dealt out. -/
theorem deal (c : Dev nD) :
    iprop(Before xs gs ws c ∗ Opened c ∗ Duties c ∗ atPos ER (barCell c) 0 ∅ 0 ∗ Creds c ∗ Local c ∗ levAts L lv
        ∗ ∃ W, owes (c : Thread nD τ) (O₀ c) W)
      ⊢ (iprop(Pre xs gs ws c ∗ Kept xs gs ws c) : sProp 𝕄) := by
  have hslot : (bigSep Finset.univ (slotOf gs c) : sProp 𝕄)
      = iprop(bigSep Finset.univ (fun j : Fin 24 => part c main_v2_1 (colSet (qn c (8 + j.val))) fullShare (gs c))
        ∗ bigSep Finset.univ (fun j : Fin 24 => reached ER (recvCell c j) 0)) := by unfold slotOf; rw [bigSep_sep']
  have hsend : (bigSep Finset.univ (sTok xs c) : sProp 𝕄)
      = iprop(bigSep Finset.univ (fun j : Fin 24 => dutyTok ER (recvCell (tgt c j) j) 0 0) ∗ bigSep Finset.univ (fun j : Fin 24 => dutyTok ER (sendCell c j) 0 0)
        ∗ bigSep Finset.univ (fun j : Fin 24 => reached ER (sendCell c j) 0)
        ∗ bigSep Finset.univ (fun j : Fin 24 => part c main_v1 Finset.univ (tok j) (xs c))) := by
    unfold sTok; rw [bigSep_sep', bigSep_sep', bigSep_sep']
  have hrecv : (bigSep Finset.univ (rTodo c) : sProp 𝕄)
      = iprop(bigSep Finset.univ (fun j : Fin 24 => atPos ER (recvCell c j) 0 ∅ 0)
        ∗ bigSep Finset.univ (fun j : Fin 24 => cred (tallyAt (recvCell c j) () N))) := by unfold rTodo; rw [bigSep_sep']
  have h0 : sl 0 = 0 := by decide
  have h1 : sl 1 = 1 := by decide
  unfold Before Opened Duties Creds Local Pre Greet Kept free aFree wFree
  rw [x_deal, w_deal, g_deal, hslot, hsend, hrecv, h0, h1, bigSep_sep', bigSep_sep', bigSep_sep']
  iintro ⟨⟨Hacc, Ha, Hw, ⟨Hwd, Hw0, Hw1⟩, ⟨Hxd, Hxs, Hx0, Hx1⟩, Hr, ⟨Hg, Hgs⟩⟩, ⟨⟨Has, Hrs⟩, ⟨Har, Hrr⟩⟩, ⟨Hdb, ⟨Hdr, Hds⟩⟩, Hab, ⟨Hcb, Hcr⟩,
    ⟨⟨Hva0, Hva1⟩, ⟨Hvw0, Hvw1⟩⟩, Hlev, HO⟩
  ihave Ha := (two_slots c cc1_scratch1 aSet_disj aSet_union) $$ Ha
  icases Ha with ⟨Ha0, Ha1⟩
  ihave Hw := (two_slots c cc1_scratch2 wSet_disj wSet_union) $$ Hw
  icases Hw with ⟨Hs0, Hs1⟩
  isplitr [Hwd Hxd Hg]
  · isplitl [Hdb Hgs Hrr Hab Hcb Hlev HO]
    · isplitl [Hdb]; · iexact Hdb
      isplitl [Hgs Hrr]; · isplitl [Hgs] <;> iassumption
      isplitl [Hab]; · iexact Hab
      isplitl [Hcb]; · iexact Hcb
      isplitl [Hlev]; · iexact Hlev
      iexact HO
    isplitl [Hdr Hds Hrs Hxs]
    · isplitl [Hdr]; · iexact Hdr
      isplitl [Hds]; · iexact Hds
      isplitl [Hrs] <;> iassumption
    isplitl [Has]; · iexact Has
    isplitl [Har Hcr]; · isplitl [Har] <;> iassumption
    isplitl [Ha0 Hva0 Hx0 Hs0 Hvw0 Hw0]
    · isplitl [Ha0 Hva0 Hx0]
      · isplitl [Ha0]; · iexact Ha0
        isplitl [Hva0] <;> iassumption
      isplitl [Hs0]; · iexact Hs0
      isplitl [Hvw0] <;> iassumption
    isplitl [Ha1 Hva1 Hx1 Hs1 Hvw1 Hw1]
    · isplitl [Ha1 Hva1 Hx1]
      · isplitl [Ha1]; · iexact Ha1
        isplitl [Hva1] <;> iassumption
      isplitl [Hs1]; · iexact Hs1
      isplitl [Hvw1] <;> iassumption
    isplitl [Hacc]; · iexact Hacc
    iexact Hr
  isplitl [Hwd]; · iexact Hwd
  isplitl [Hxd]; · iexact Hxd
  iexact Hg

/-- At exit everything comes together. -/
theorem gather (c : Dev nD) :
    iprop(Post xs ws c ∗ Kept xs gs ws c)
      ⊢ (iprop(After xs gs ws c ∗ Local c ∗ bigSep Finset.univ (fun j => atPos ER (sendCell c j) 1 ∅ 0)
        ∗ bigSep Finset.univ (fun j => atPos ER (recvCell c j) 1 ∅ 0) ∗ atPos ER (barCell c) 1 ∅ 0 ∗ Idle c) : sProp 𝕄) := by
  have hsend : (bigSep Finset.univ (wDone xs c) : sProp 𝕄)
      = iprop(bigSep Finset.univ (fun j : Fin 24 => atPos ER (sendCell c j) 1 ∅ 0)
        ∗ bigSep Finset.univ (fun j : Fin 24 => part c main_v1 Finset.univ (tok j) (xs c))) := by unfold wDone; rw [bigSep_sep']
  have hrecv : (homes xs c 24 : sProp 𝕄)
      = iprop(bigSep Finset.univ (fun j : Fin 24 => part c main_v2_1 (colSet (qn c (8 + j.val))) fullShare (Xa xs c))
        ∗ bigSep Finset.univ (fun j : Fin 24 => atPos ER (recvCell c j) 1 ∅ 0)) := by
    unfold homes; rw [done_last]; unfold rHome; rw [bigSep_sep']
  have h0 : sl 32 = 0 := by decide
  have h1 : sl 33 = 1 := by decide
  unfold After Local Post Kept Loop9 free aFree wFree acc
  rw [x_deal, w_deal, ← g_join, hsend, hrecv, h0, h1]
  iintro ⟨⟨⟨Has, Hxs⟩, ⟨⟨⟨Ha0, Hva0, Hx0⟩, ⟨Hs0, Hvw0, Hw0⟩⟩, ⟨⟨Ha1, Hva1, Hx1⟩, ⟨Hs1, Hvw1, Hw1⟩⟩, Hacc, ⟨Hgs, Har⟩, Hr⟩, Hab, Hi⟩, ⟨Hwd, Hxd, Hg⟩⟩
  ihave Ha := (one_whole c cc1_scratch1 aSet_disj aSet_union) $$ [Ha0 Ha1]
  · isplitl [Ha0]; · iexact Ha0
    iexact Ha1
  ihave Hw := (one_whole c cc1_scratch2 wSet_disj wSet_union) $$ [Hs0 Hs1]
  · isplitl [Hs0]; · iexact Hs0
    iexact Hs1
  isplitl [Hacc Ha Hw Hwd Hw0 Hw1 Hxd Hxs Hx0 Hx1 Hr Hg Hgs]
  · isplitl [Hacc]; · iexists _; iexact Hacc
    isplitl [Ha]; · iexact Ha
    isplitl [Hw]; · iexact Hw
    isplitl [Hwd Hw0 Hw1]
    · isplitl [Hwd]; · iexact Hwd
      isplitl [Hw0] <;> iassumption
    isplitl [Hxd Hxs Hx0 Hx1]
    · isplitl [Hxd]; · iexact Hxd
      isplitl [Hxs]; · iexact Hxs
      isplitl [Hx0] <;> iassumption
    isplitl [Hr]; · iexact Hr
    isplitl [Hg] <;> iassumption
  isplitl [Hva0 Hva1 Hvw0 Hvw1]
  · isplitl [Hva0 Hva1]; · isplitl [Hva0] <;> iassumption
    isplitl [Hvw0] <;> iassumption
  isplitl [Has]; · iexact Has
  isplitl [Har]; · iexact Har
  isplitl [Hab]; · iexact Hab
  iexact Hi

/-- The second kernel, from its buffers and what the launch left, to its buffers, every counter at zero. -/
theorem fused_run (c : Dev nD) (Q : PUnit → sProp 𝕄) :
    iprop(Before xs gs ws c ∗ Xk xs gs c ∗ ∃ W, owes (c : Thread nD τ) (O₀ c) W)
      ⊢ iprop((iprop(After xs gs ws c ∗ Pipeline.ownSems0 osem c ∗ semVal (barCell c) 0 ∗ Idle c) -∗ Q ⟨⟩)
        -∗ wp frame (wpE (defs₀ (F := F)) 𝒱₀ c none) Set.univ (onBufs (cc1__fused_body (F := F))) Q) := by
  unfold Xk
  iintro ⟨HB, ⟨%K, #HC, HO, HD, Hb, Hc, Hl, Hlev⟩, Hw⟩ Hk
  ihave H := (deal xs gs ws c) $$ [HB HO HD Hb Hc Hl Hlev Hw]
  · isplitl [HB]; · iexact HB
    isplitl [HO]; · iexact HO
    isplitl [HD]; · iexact HD
    isplitl [Hb]; · iexact Hb
    isplitl [Hc]; · iexact Hc
    isplitl [Hl]; · iexact Hl
    isplitl [Hlev]; · iexact Hlev
    iexact Hw
  icases H with ⟨HP, HK⟩
  iapply (wp_fupd _ _ _ _ _)
  iapply (body_run xs gs ws K c _) $$ [HP]
  · isplitr; · iexact HC
    iexact HP
  iintro HQ
  ihave H := (gather xs gs ws c) $$ [HQ HK]
  · isplitl [HQ] <;> iassumption
  icases H with ⟨HA, Hl, Hs, Hr, Hb, Hi⟩
  imod (close_each xs gs K (sendCell c) (Ctx_send xs gs K c)) $$ [Hs] with Hs
  · isplitr; · iexact HC
    iexact Hs
  imod (close_each xs gs K (recvCell c) (Ctx_recv xs gs K c)) $$ [Hr] with Hr
  · isplitr; · iexact HC
    iexact Hr
  imod (Rounds.cell_close ER (talkRd xs gs) (g := barCell c) (R := 1) (Set.mem_univ (K (barCell c))) id (duties_later xs gs (barCell c))) $$ [Hb] with Hb
  · isplitr
    · ihave H := (Ctx_bar xs gs K c) $$ HC
      icases H with ⟨H, -⟩
      iexact H
    iexact Hb
  imodintro
  iapply Hk
  isplitl [HA]; · iexact HA
  isplitl [Hl Hs Hr]
  · rw [ownSems_eq]; unfold Local
    isplitl [Hl]; · iexact Hl
    isplitl [Hs] <;> iassumption
  isplitl [Hb]; · iexact Hb
  iexact Hi

end Cert.KernelIdeal.Hand

end
-- ==== Proof.Cast.lean ====
/- The first kernel: each of its eight grid points rounds one block of 1024 rows of the operand. Here: its body, what
   it leaves in each block, and the whole array after the last point. -/
module

public import proofs.«01_k».proof.Proof.Body
public import proofs.«01_k».proof.Proof.Gen.KernelIdeal.Points
public import proofs.«01_k».proof.Proof.Gen.KernelIdeal.Regions
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

/-! ## One block of the rounding -/

/-- Both offsets of a whole block are zero. -/
theorem off_zero : (![0, 0] : Fin 2 → Nat) = fun _ => 0 := by funext a; match a with | 0 => rfl | 1 => rfl

/-- The block read from one staging buffer is rounded and stored whole into the other. -/
theorem cast_run (c : Dev nD) (i : grid0.Coords) (M0 : Memref sig .tc .vmem S1024x2048 .f32) (h0 : M0.IsWhole)
    (M1 : Memref sig .tc .vmem S1024x2048 .bf16) (h1 : M1.IsWhole)
    (X : S1024x2048.Idx → Elt F .f32) (Y : S1024x2048.Idx → Elt F .bf16) (Q : PUnit → sProp 𝕄) :
    iprop(owns (c : Thread nD τ) M0 fullShare X ∗ owns (c : Thread nD τ) M1 fullShare Y
        ∗ (iprop(owns (c : Thread nD τ) M0 fullShare X ∗ owns (c : Thread nD τ) M1 fullShare (k0_pay1 (F := F) X)) -∗ Q ⟨⟩))
      ⊢ wp frame (wpE (defs₀ (F := F)) 𝒱₀ (c : Thread nD τ) none) Set.univ (cc0__cast_body i M0 h0 M1 h1) Q := by
  rw [cc0__cast_body_eq_skeleton]
  unfold cc0__cast_body_skel owns
  iintro ⟨⟨%f0, %hf0, H0⟩, ⟨%f1, -, H1⟩, Hk⟩
  sl_exec!
  sl_step
  iapply Hk
  isplitl [H0]
  · iexists f0; isplitr; · ipureintro; exact hf0
    iexact H0
  iexists _; isplitr; swap; · iexact H1
  ipureintro
  unfold cast_run.sl.H1_1
  rw [View.read_writes_junk_eq_canon, View.canon_unit_zero off_zero, View.readAt_eq_ld, View.ld_unit_zero off_zero, hf0]

/-! ## The proof data of the first kernel -/

variable (m : (ℓ : Loc nD τ sig) → Buf (Elt F) ℓ)

/-- The operand rounded, entry by entry. -/
def castOf (f : main_arg0.ty.Contents (Elt F)) : main_v1.ty.Contents (Elt F) := truncf (s := S8192x2048) (φ := .f32) .bf16 f bitsLt_bf16_f32

/-- The rounded operand of each device. -/
def xsOf (c : Dev nD) : main_v1.ty.Contents (Elt F) := castOf (m (c.tc.loc main_arg0))

/-- The block of the operand that grid point `t` is handed. -/
def inBlk (c : Dev nD) (t : Fin cfg0.N) : (cfg0.win 0).block.Idx → Elt F (cfg0.win 0).elt :=
  ((cfg0.win 0).blk t).view.read (Elt F) (m (c.tc.loc main_arg0))

/-- The two arrays at launch; after a point its input block stays and its output block is that block rounded; between
    points the scratch is held at something, and the core owes throughout what the second kernel will pay. -/
def dat0 (c : Dev nD) : Dat τ (Elt F) Unit ℕ UU ℕ cfg0 c where
  A w := m ((c : Thread nD τ).loc (Pipeline.arrRef spec0 w))
  after w t := match w with
    | ⟨0, _⟩ => inBlk m c t
    | ⟨1, _⟩ => k0_pay1 (F := F) (inBlk m c t)
  Φ _ := Pipeline.scopedRest (Ix := Unit) (Name := ℕ) (U := UU) (Lvl := ℕ) (Val := Elt F) spec0 c
  q _ := fullShare
  owed _ := O₀ c

/-- The input block a point finds is the array's own. -/
theorem before0 (c : Dev nD) (t : Fin cfg0.N) (d : (cfg0.win 0).block.Idx → Elt F (cfg0.win 0).elt) :
    (dat0 m c).before 0 t d = inBlk m c t := by
  rw [(dat0 m c).before_fetched 0 t (fetch0_0 t) d]
  rfl

/-- Each point of the first kernel does what the proof data say. -/
theorem body0 (c : Dev nD) : BodyObligation (dat0 m c) (defs₀ (F := F)) 𝒱₀ () Set.univ := fun t => by
  rw [bigSep_W0, bigSep_W0]
  rw [show (dat0 m c).Φ t.castSucc = (dat0 m c).Φ t.succ from rfl,
    show (dat0 m c).owesAt () t.succ = (dat0 m c).owesAt () t.castSucc from rfl]
  iintro ⟨HΦ, Howes, ⟨%d0, H0⟩, ⟨%d1, H1⟩⟩
  rw [before0]
  iapply (cast_run c (grid0.coords t) (win0_0.stage (cfg0.slots t 0)) (hstage0_0 ((cfg0.slots t 0).cast nbuf0_0))
    (win0_1.stage (cfg0.slots t 1)) (hstage0_1 ((cfg0.slots t 1).cast nbuf0_1)) (inBlk m c t) _ _)
  isplitl [H0]; · iexact H0
  isplitl [H1]; · iexact H1
  iintro ⟨H0, H1⟩
  isplitl [HΦ]; · iexact HΦ
  isplitl [Howes]; · iexact Howes
  isplitl [H0]; · iexact H0
  iexact H1

/-! ## The array after the last point -/

/-- A point writes back its block of the rounded array. -/
theorem flushed0 (c : Dev nD) (t : Fin cfg0.N) :
    (dat0 m c).flushed 1 t = ((cfg0.win 1).blk t).view.read (Elt F) (xsOf m c) := by
  show (cfg0.win 1).cut (grid0.coords t) (k0_pay1 (F := F) (inBlk m c t)) = _
  unfold k0_pay1
  dsimp only
  rw [shapeCast_self]
  rfl

/-- Every row lies in the block of the point numbered by its thousand (of 1024). -/
theorem mem_blk0 (t : Fin cfg0.N) (i : S8192x2048.Idx) :
    i ∈ ((cfg0.win 1).blk t).view.set ↔ t.val * 1024 ≤ (i 0 : Nat) ∧ (i 0 : Nat) < t.val * 1024 + 1024 := by
  show i ∈ ((View.whole main_v1).slice (win0_1.rect t)).set ↔ _
  rw [View.set_slice_whole, Rect.mem_set_unit]
  have h1 : (i 1 : Nat) < 2048 := (i 1).isLt
  have e : win0_1.index t 0 * win0_1.size 0 = t.val * 1024 ∧ win0_1.xsize (grid0.coords t) 0 = 1024
      ∧ win0_1.index t 1 * win0_1.size 1 = 0 ∧ win0_1.xsize (grid0.coords t) 1 = 2048 := by
    revert t; decide +kernel
  refine ⟨fun h => ?_, fun h a => ?_⟩
  · have : win0_1.index t 0 * win0_1.size 0 ≤ (i 0 : Nat) ∧ (i 0 : Nat) < win0_1.index t 0 * win0_1.size 0 + win0_1.xsize (grid0.coords t) 0 := h 0
    rw [e.1, e.2.1] at this; exact this
  · match a with
    | ⟨0, _⟩ => show win0_1.index t 0 * win0_1.size 0 ≤ (i 0 : Nat) ∧ (i 0 : Nat) < win0_1.index t 0 * win0_1.size 0 + win0_1.xsize (grid0.coords t) 0
                rw [e.1, e.2.1]; exact h
    | ⟨1, _⟩ => show win0_1.index t 1 * win0_1.size 1 ≤ (i 1 : Nat) ∧ (i 1 : Nat) < win0_1.index t 1 * win0_1.size 1 + win0_1.xsize (grid0.coords t) 1
                rw [e.2.2.1, e.2.2.2]; omega

/-- The blocks written back cover the array. -/
theorem cover0 (i : S8192x2048.Idx) : ∃ t : Fin cfg0.N, (cfg0.win 1).flush t = true ∧ i ∈ ((cfg0.win 1).blk t).view.set := by
  have h0 : (i 0 : Nat) < 8192 := (i 0).isLt
  have hN : cfg0.N = 8 := N_0
  have ht : (i 0 : Nat) / 1024 < cfg0.N := by omega
  refine ⟨⟨(i 0 : Nat) / 1024, ht⟩, flush0_1 _, ?_⟩
  rw [mem_blk0]
  dsimp only
  omega

/-- After the last point the second array holds the operand rounded. -/
theorem final0 (c : Dev nD) : (dat0 m c).arrAt 1 cfg0.N = xsOf m c :=
  (dat0 m c).arrAt_eq_of_cover 1 (xsOf m c) (fun t _ => flushed0 m c t) cover0

end Cert.KernelIdeal.Hand

end
-- ==== Proof.Regs.lean ====
/- The two kernels as the launch sees them: what each device holds between them, and the second kernel's proof data. -/
module

public import proofs.«01_k».proof.Proof.Talk
public import proofs.«01_k».proof.Proof.Cast
public import Idealize.ShloMosaic.Lib.Pipeline.RegionTalk
public import Idealize.ShloMosaic.Lib.Pipeline.RegionArraysS

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ)

/-! ## What each device holds, from the launch memory -/

/-- The buffer of gathered rows at launch, and the second operand. -/
def gsOf (c : Dev nD) : main_v2_1.ty.Contents (Elt F) := m (c.tc.loc main_v2_1)
/-- The second operand of each device. -/
def wsOf (c : Dev nD) : main_arg1.ty.Contents (Elt F) := m (c.tc.loc main_arg1)
/-- The result computed. -/
def outOf (c : Dev nD) : main_v2_0.ty.Contents (Elt F) := accAt (xsOf m) (wsOf m) c 32

/-- Every buffer that outlives a kernel: at launch, -/
abbrev V₀ (c : Dev nD) : Valuation τ sig (Elt F) := fun b => m (c, b)
/-- after the first kernel, -/
def V₁ (c : Dev nD) : Valuation τ sig (Elt F) := Pipeline.afterRegion (dat0 m c) (V₀ m c)
/-- and after the second. -/
def V₂ (c : Dev nD) : Valuation τ sig (Elt F) :=
  Function.update (Function.update (V₁ m c) main_v2_0 (outOf m c)) main_v2_1 (gOut (xsOf m) (gsOf m) c)

/-- These are five buffers. -/
theorem bufs_eq (c : Dev nD) (W : Valuation τ sig (Elt F)) : (StableHlo.held (c : Thread nD τ) (Pipeline.ucRefs τ sig) W : sProp 𝕄)
    = iprop(buf c main_arg0 fullShare (W main_arg0) ∗ buf c main_arg1 fullShare (W main_arg1) ∗ buf c main_v1 fullShare (W main_v1)
      ∗ buf c main_v2_0 fullShare (W main_v2_0) ∗ buf c main_v2_1 fullShare (W main_v2_1)) := by
  unfold StableHlo.held
  rw [bigSep_eq_bigSepL_of_eq [Proc.devRef .tc main_arg0, Proc.devRef .tc main_arg1, Proc.devRef .tc main_v1, Proc.devRef .tc main_v2_0, Proc.devRef .tc main_v2_1] (by decide) (by decide)]
  rfl

/-- The first kernel changes the rounded operand only. -/
theorem V₁_arg0 (c : Dev nD) : V₁ m c main_arg0 = m (c.tc.loc main_arg0) := by
  have h := Pipeline.afterRegion_arr (dat0 m c) (V₀ m c) winFacts0.arr_inj (0 : Fin 2)
  exact h.trans ((dat0 m c).arrAt_in 0 rfl _)
/-- After the first kernel its result is the operand rounded. -/
theorem V₁_v1 (c : Dev nD) : V₁ m c main_v1 = xsOf m c := by
  have h := Pipeline.afterRegion_arr (dat0 m c) (V₀ m c) winFacts0.arr_inj (1 : Fin 2)
  exact h.trans (final0 m c)
/-- The first kernel leaves the second operand. -/
theorem V₁_arg1 (c : Dev nD) : V₁ m c main_arg1 = wsOf m c :=
  Pipeline.afterRegion_off (dat0 m c) (V₀ m c) (Pipeline.ucRefs τ sig) _ (by decide)
/-- The first kernel leaves the buffer of gathered rows. -/
theorem V₁_v2_1 (c : Dev nD) : V₁ m c main_v2_1 = gsOf m c :=
  Pipeline.afterRegion_off (dat0 m c) (V₀ m c) (Pipeline.ucRefs τ sig) _ (by decide)

/-- The second kernel changes its two results only. -/
theorem V₂_of (c : Dev nD) (r : Ref sig .tc) (h0 : r ≠ main_v2_0) (h1 : r ≠ main_v2_1) : V₂ m c r = V₁ m c r := by
  unfold V₂
  rw [Function.update_of_ne (StableHlo.devRef_ne_of_ne h1), Function.update_of_ne (StableHlo.devRef_ne_of_ne h0)]
/-- After the second kernel the buffer of gathered rows holds the rows received. -/
theorem V₂_v2_1 (c : Dev nD) : V₂ m c main_v2_1 = gOut (xsOf m) (gsOf m) c := Function.update_self ..
/-- After the second kernel its result is the accumulator after 32 tiles. -/
theorem V₂_v2_0 (c : Dev nD) : V₂ m c main_v2_0 = outOf m c := by
  unfold V₂
  rw [Function.update_of_ne (StableHlo.devRef_ne_of_ne (by decide : main_v2_0 ≠ main_v2_1))]
  exact Function.update_self ..

/-! ## The proof data of the second kernel -/

/-- What the second kernel starts from: its scratch, the buffers, and what the launch left it. -/
def In1 (c : Dev nD) : sProp 𝕄 :=
  iprop(Pipeline.scopedRest (Ix := Unit) (Name := ℕ) (U := UU) (Lvl := ℕ) (Val := Elt F) cfg1.spec c ∗ (∃ r, prngReg c r)
      ∗ StableHlo.held (c.tc : Thread nD τ) (Pipeline.ucRefs τ sig) (V₁ m c) ∗ Xk (xsOf m) (gsOf m) c)
/-- What it ends with: the buffers at their ends and every counter at zero. -/
def Out1 (c : Dev nD) : sProp 𝕄 :=
  iprop(Pipeline.scopedRest (Ix := Unit) (Name := ℕ) (U := UU) (Lvl := ℕ) (Val := Elt F) cfg1.spec c ∗ (∃ r, prngReg c r)
      ∗ StableHlo.held (c.tc : Thread nD τ) (Pipeline.ucRefs τ sig) (V₂ m c) ∗ Pipeline.ownSems0 osem c ∗ semVal (barCell c) 0)

/-- Its one point runs from the one to the other. The core owes its signals and arrivals before, nothing after. -/
def dat1 (c : Dev nD) : Dat τ (Elt F) Unit ℕ UU ℕ cfg1 c where
  A w := w.elim0
  after w := w.elim0
  Φ t := if t.val = 0
    then In1 m c
    else Out1 m c
  q w := w.elim0
  owed t := if t.val = 0 then O₀ c else 0

/-- What the core owes, put into the proof data's form and taken out of it. -/
theorem owes_in {cfg : Cfg sig Λ₀} {c : Dev nD} (dat : Dat τ (Elt F) Unit ℕ UU ℕ cfg c) (t : Fin (cfg.N + 1))
    (O : CellTallies nD τ sig Unit) (h : dat.owed t = O) (hr : dat.recorded t = Set.univ) :
    (iprop(∃ W, owes (c : Thread nD τ) O W) : sProp 𝕄) ⊢ (dat.owesAt () t : sProp 𝕄) := by
  unfold Dat.owesAt Pipeline.owesWithin Dat.bound
  rw [h, hr]
  iintro ⟨%W, HO⟩
  iexists W
  isplitr; · ipureintro; exact fun _ _ => Or.inl trivial
  iexact HO
/-- What a device owes at a point, read off the proof data. -/
theorem owes_out {cfg : Cfg sig Λ₀} {c : Dev nD} (dat : Dat τ (Elt F) Unit ℕ UU ℕ cfg c) (t : Fin (cfg.N + 1))
    (O : CellTallies nD τ sig Unit) (h : dat.owed t = O) :
    (dat.owesAt () t : sProp 𝕄) ⊢ iprop(∃ W, owes (c : Thread nD τ) O W) := by
  unfold Dat.owesAt Pipeline.owesWithin
  rw [h]
  iintro ⟨%W, -, HO⟩
  iexists W; iexact HO

/-- The second kernel has no window. -/
theorem bigSep_W1 {M : Type} [URA M] (Φ : Fin 0 → sProp M) : bigSep Finset.univ Φ = (BI.emp : sProp M) :=
  bigSep_univ_eq_bigSepL [] (by decide) (by decide) Φ

/-- The proof data at the first boundary, and at any later one. -/
theorem owed_first (c : Dev nD) (t : Fin (cfg1.N + 1)) (ht : t.val = 0) : (dat1 m c).owed t = O₀ c := by
  show (if t.val = 0 then O₀ c else 0) = _
  exact if_pos ht
/-- After its one point the second kernel owes nothing. -/
theorem owed_last (c : Dev nD) (t : Fin (cfg1.N + 1)) (ht : t.val ≠ 0) : (dat1 m c).owed t = 0 := by
  show (if t.val = 0 then O₀ c else 0) = _
  exact if_neg ht
/-- Before its one point the second kernel holds what it starts from. -/
theorem inv_first (c : Dev nD) (t : Fin (cfg1.N + 1)) (ht : t.val = 0) : (dat1 m c).Φ t = In1 m c := by
  show (if t.val = 0 then In1 m c else Out1 m c) = _
  exact if_pos ht
/-- After its one point the second kernel holds what it ends with. -/
theorem inv_last (c : Dev nD) (t : Fin (cfg1.N + 1)) (ht : t.val ≠ 0) : (dat1 m c).Φ t = Out1 m c := by
  show (if t.val = 0 then In1 m c else Out1 m c) = _
  exact if_neg ht
/-- The kernel's one point has nothing behind it and something before what follows it. -/
theorem pt_first : t1_0.castSucc.val = 0 := rfl
/-- After the one point is not before it. -/
theorem pt_last : t1_0.succ.val ≠ 0 := Nat.succ_ne_zero _

/-- Its one point does what the proof data say. -/
theorem body1 (c : Dev nD) : BodyObligation (dat1 m c) (defs₀ (F := F)) 𝒱₀ () Set.univ := fun t => by
  obtain rfl := fin_N1 t
  rw [bigSep_W1, bigSep_W1, inv_first m c _ pt_first, inv_last m c _ pt_last]
  unfold In1 Out1
  rw [scopedRest1_eq, bufs_eq, bufs_eq, V₁_v1, V₁_arg1, V₁_v2_1, V₂_v2_0, V₂_v2_1, V₂_of m c main_arg0 (by decide) (by decide),
    V₂_of m c main_arg1 (by decide) (by decide), V₂_of m c main_v1 (by decide) (by decide), V₁_v1, V₁_arg1]
  iintro ⟨⟨⟨Hg0, Hg1, Hg2, Hg3, Hs0, Hs1, Hs2⟩, Hreg, ⟨Ha0, Ha1, Hv1, Hr, Hg⟩, HX⟩, HO, -⟩
  ihave HO := (owes_out (dat1 m c) _ (O₀ c) (owed_first m c _ pt_first)) $$ HO
  iapply (fused_run (xsOf m) (gsOf m) (wsOf m) c _) $$ [Hs0 Hs1 Hs2 Ha1 Hv1 Hr Hg HX HO]
  · unfold Before
    isplitl [Hs0 Hs1 Hs2 Ha1 Hv1 Hr Hg]
    · isplitl [Hs0]; · iexact Hs0
      isplitl [Hs1]; · iexact Hs1
      isplitl [Hs2]; · iexact Hs2
      isplitl [Ha1]; · iexact Ha1
      isplitl [Hv1]; · iexact Hv1
      isplitl [Hr]; · iexists _; iexact Hr
      iexact Hg
    isplitl [HX]; · iexact HX
    iexact HO
  unfold After
  iintro ⟨⟨Hs0, Hs1, Hs2, Ha1, Hv1, Hr, Hg⟩, Hos, Hb, HO⟩
  isplitr [HO]
  · isplitl [Hg0 Hg1 Hg2 Hg3 Hs0 Hs1 Hs2]
    · isplitl [Hg0]; · iexact Hg0
      isplitl [Hg1]; · iexact Hg1
      isplitl [Hg2]; · iexact Hg2
      isplitl [Hg3]; · iexact Hg3
      isplitl [Hs0]; · iexact Hs0
      isplitl [Hs1]; · iexact Hs1
      iexact Hs2
    isplitl [Hreg]; · iexact Hreg
    isplitl [Ha0 Ha1 Hv1 Hr Hg]
    · isplitl [Ha0]; · iexact Ha0
      isplitl [Ha1]; · iexact Ha1
      isplitl [Hv1]; · iexact Hv1
      isplitl [Hr]; · iexact Hr
      iexact Hg
    isplitl [Hos]; · iexact Hos
    iexact Hb
  isplitl [HO]
  · unfold Idle
    iapply (owes_in (dat1 m c) t1_0.succ 0 (owed_last m c _ pt_last) rfl)
    iexact HO
  iempintro

end Cert.KernelIdeal.Hand

end
-- ==== Proof.Region.lean ====
/- The two kernels in the run: each one's entry and exit, and how they link. -/
module

public import proofs.«01_k».proof.Proof.Regs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ)

/-- The two kernels' proof data. -/
def pdats : (p : Fin 2) → (c : Dev nD) → Dat τ (Elt F) Unit ℕ UU ℕ (Pipeline.pin (pcfgs (F := F)) adm p) c
  | 0 => dat0 m
  | 1 => dat1 m

/-- The facts that the launch of the first kernel asks for. -/
theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0
/-- The facts that the launch of the second kernel asks for. -/
theorem kit1 : Pipeline.PLaunchFacts (nD := nD) (τ := τ) (pcfgs (F := F)) 1 where
  cellOf_inj a := by rw [Subsingleton.elim a adm]; exact cellOf_inj
  win := winFacts1
  pre := Pipeline.PreFacts.none _
  block_pos := block_pos1
  arr_whole := arr_whole1
  stage_whole := stage_whole1

/-- The semaphores that the second kernel declares. -/
theorem own1 : Pipeline.OwnSemFacts (pcfgs (F := F) 1).spec osem :=
  ⟨osem_facts.isScoped, osem_facts.inj, fun _ w => w.elim0⟩
/-- The second kernel has no window, the first one's arrays outlive it. -/
theorem no_window : (Finset.univ : Finset (Fin (pcfgs (F := F) 1).W)) = ∅ := by
  show (Finset.univ : Finset (Fin 0)) = ∅
  rfl
/-- The arrays of the first kernel outlive it. -/
theorem arrRefs0 : Pipeline.arrRefs (τ := τ) (pcfgs (F := F) 0).spec ⊆ Pipeline.ucRefs τ sig := by
  have h : Pipeline.arrRefs (τ := τ) spec0 ⊆ Pipeline.ucRefs τ sig := Pipeline.arrRefs_sub_ucRefs spec0 (by decide)
  exact h

/-- Every cell a device owes to lies above level 0. -/
theorem owed_above (c : Dev nD) (g : GSem nD τ sig) (i : Unit) (h : 0 < O₀ c g i) : i ∈ L g ∧ 0 < lv g i := by
  have hg : (∃ d, g = barCell (fwd c d)) ∨ ∃ j : Fin 24, g = recvCell (tgt c j) j := by
    unfold O₀ at h
    rw [Pi.add_apply, Finsupp.add_apply, Pi.add_apply, Finsupp.add_apply, Pi.add_apply, Finsupp.add_apply,
      tallyAt_apply, tallyAt_apply, tallyAt_apply] at h
    by_cases h3 : g = barCell (fwd c 3) ∧ i = (); · exact Or.inl ⟨3, h3.1⟩
    by_cases h2 : g = barCell (fwd c 2) ∧ i = (); · exact Or.inl ⟨2, h2.1⟩
    by_cases h1 : g = barCell (fwd c 1) ∧ i = (); · exact Or.inl ⟨1, h1.1⟩
    rw [if_neg h3, if_neg h2, if_neg h1] at h
    exact Or.inr (Ofrom_pos c 0 g i (by simpa only [add_zero] using h))
  rcases hg with ⟨d, rfl⟩ | ⟨j, rfl⟩
  · refine ⟨by rw [show L (barCell (fwd c d)) = {()} from L_tc _ _]; exact Finset.mem_singleton.mpr rfl, ?_⟩
    unfold lv; rw [if_pos rfl]; decide
  · refine ⟨by rw [show L (recvCell (tgt c j) j) = {()} from L_tc _ _]; exact Finset.mem_singleton.mpr rfl, ?_⟩
    unfold lv
    rw [if_neg (by intro h; cases h), if_pos ⟨j, rfl⟩]; decide

/-- The first kernel's staging counters lie at level 0. -/
theorem stage_low (c : Dev nD) (w : Fin cfg0.W) (s : Fin (cfg0.win w).nbuf) :
    lv ((c : Thread nD τ), .dma ((cfg0.win w).sem s)) () ≤ 0 := by
  have h : ∀ (w : Fin cfg0.W) (s : Fin (cfg0.win w).nbuf) (j : Fin 24), (cfg0.win w).sem s ≠ recvSem j := by decide
  unfold lv
  rw [if_neg (by intro h; cases h), if_neg (fun ⟨j, e⟩ => h w s j (SemLoc.dma.inj e))]

/-- What rides past the first kernel: what the launch left for the second, and the core's register. -/
def Ride (c : Dev nD) : sProp 𝕄 := iprop(Tk (xsOf m) (gsOf m) c ∗ ∃ r, prngReg c r)

/-- The first kernel in the run: the core keeps owing all it owes. -/
def reg0 : Pipeline.RegionSeg (pcfgs (F := F)) adm (pdats m) () defs₀ 𝒱₀ L lv 0 :=
  Pipeline.RegionSeg.ofHeldIn (pcfgs (F := F)) adm (pdats m) () defs₀ 𝒱₀ L lv 0 O₀ (Pipeline.ucRefs τ sig) (fun _ => iprop(emp)) (fun _ => iprop(emp)) kit0 rfl
    (fun c => (body0 m c).loose) (fun _ _ => rfl) (fun _ => rfl)
    (fun c w => by fin_cases w <;> rfl)
    (fun c => by
      show iprop(Pipeline.scopedRest (Pipeline.pin (pcfgs (F := F)) adm 0).spec c ∗ emp) ⊢ Pipeline.scopedRest spec0 c
      iintro ⟨H, -⟩; iexact H)
    (fun c => by
      show Pipeline.scopedRest spec0 c ⊢ iprop(Pipeline.scopedRest (Pipeline.pin (pcfgs (F := F)) adm 0).spec c ∗ emp)
      iintro H
      isplitl [H]; · iexact H
      iempintro)
    (fun _ => 0)
    ⟨fun c w s => by rw [L_tc]; exact Finset.mem_singleton.mpr rfl, fun c w s => stage_low c w s, fun c g i h => owed_above c g i h⟩
    (Ride m) (V₀ m) (fun _ _ => rfl)

set_option backward.isDefEq.respectTransparency.types false in
/-- The second kernel in the run: it opens its cells, and pays all the core owes. -/
def reg1 : Pipeline.RegionSeg (pcfgs (F := F)) adm (pdats m) () defs₀ 𝒱₀ L lv 1 :=
  Pipeline.RegionSeg.ofTalk (pcfgs (F := F)) adm (pdats m) () defs₀ 𝒱₀ L lv 1 osem own1
    (Pipeline.ucRefs τ sig) (Pipeline.ucRefs τ sig) (Finset.Subset.refl _) kit1 rfl (fun c => (body1 m c).loose)
    (fun _ => 0) O₀ (fun c => (owed_first m c _ rfl).trans (zero_add _).symm) (fun c => owed_last m c _ (by rw [Fin.val_last]; exact Nat.succ_ne_zero _)) (fun _ => rfl)
    (fun _ w => w.elim0) (V₁ m) (V₂ m) (fun _ b hb => absurd hb (by rw [Finset.sdiff_self]; exact Finset.notMem_empty b))
    (Tk (xsOf m) (gsOf m)) (fun c => semVal (barCell c) 0) (Xk (xsOf m) (gsOf m)) (fun c => semVal (barCell c) 0) (hopen (xsOf m) (gsOf m))
    (fun c => by
      rw [show (pdats m 1 c).Φ 0 = In1 m c from inv_first m c _ rfl]
      unfold In1; exact .rfl)
    (fun c => by
      rw [show (pdats m 1 c).Φ (Fin.last _) = Out1 m c from inv_last m c _ (by rw [Fin.val_last]; exact Nat.succ_ne_zero _)]
      unfold Out1; exact .rfl)
    (fun c => by iintro H; imodintro; iexact H) (fun _ => 0)
    ⟨fun _ w => w.elim0, fun _ w => w.elim0, fun c t g i h => by
      by_cases ht : t.val = 0
      · rw [show (pdats m 1 c).owed t = O₀ c from owed_first m c t ht] at h; exact owed_above c g i h
      · rw [show (pdats m 1 c).owed t = 0 from owed_last m c t ht] at h; exact absurd h (lt_irrefl 0)⟩
    (fun _ => iprop(emp)) (fun _ w => w.elim0) (fun _ w => w.elim0)

/-- The second kernel stages no array. -/
theorem held_arr (c : Dev nD) (W : Valuation τ sig (Elt F)) :
    (StableHlo.held (c.tc : Thread nD τ) (Pipeline.arrRefs (τ := τ) (pcfgs (F := F) 1).spec) W : sProp 𝕄) = BI.emp := by
  rw [show Pipeline.arrRefs (τ := τ) (pcfgs (F := F) 1).spec = ∅ from by
    unfold Pipeline.arrRefs; rw [Finset.map_eq_empty, Finset.image_eq_empty, no_window]]
  unfold StableHlo.held
  exact BI.bigSep_empty

/-- A device's state at the start and at the end of the run. -/
def T₀ (c : Dev nD) : sProp 𝕄 :=
  iprop(StableHlo.held (c.tc : Thread nD τ) (Pipeline.ucRefs τ sig) (V₀ m c) ∗ ((∃ Wd, owes (c : Thread nD τ) (O₀ c) Wd) ∗ emp ∗ Ride m c))
/-- What a device ends with. -/
def Tₙ (c : Dev nD) : sProp 𝕄 :=
  iprop(StableHlo.held (c.tc : Thread nD τ) (Pipeline.ucRefs τ sig) (V₂ m c) ∗ semVal (barCell c) 0)

/-- The start enters the first kernel, -/
theorem link0 (c : Dev nD) : T₀ m c ⊢ (reg0 m).pre c := by
  unfold T₀ reg0
  exact Pipeline.RegionSeg.ofHeldIn_pre (pcs := pcfgs (F := F)) (a := adm) (pdats := pdats m) (ι := ()) (defs₀ := defs₀) (𝒱₀ := 𝒱₀) (L := L) (lv := lv) (D := O₀) (p := 0)
    (S := Pipeline.ucRefs τ sig) (X := fun _ => iprop(emp)) (Y := fun _ => iprop(emp)) (R := Ride m) (W := V₀ m) (arrRefs0 (F := F)) c
/-- the first kernel's exit enters the second, -/
theorem link1 (c : Dev nD) : (reg0 m).post c ⊢ (reg1 m).pre c := by
  unfold reg0
  refine (Pipeline.RegionSeg.ofHeldIn_post (pcs := pcfgs (F := F)) (p := 0) (arrRefs0 (F := F)) c).trans ?_
  show iprop(StableHlo.held (c.tc : Thread nD τ) (Pipeline.ucRefs τ sig) (V₁ m c) ∗ ((∃ Wd, owes (c : Thread nD τ) (O₀ c) Wd) ∗ emp ∗ Ride m c))
    ⊢ iprop(StableHlo.held (c.tc : Thread nD τ) (Pipeline.arrRefs (τ := τ) (pcfgs (F := F) 1).spec) (V₁ m c) ∗ (∃ r, prngReg c r)
      ∗ (StableHlo.held (c.tc : Thread nD τ) (Pipeline.ucRefs τ sig) (V₁ m c) ∗ emp) ∗ Tk (xsOf m) (gsOf m) c ∗ ∃ Wd, owes (c : Thread nD τ) (0 + O₀ c) Wd)
  rw [held_arr, zero_add]
  unfold Ride
  iintro ⟨Hh, HO, -, Ht, Hp⟩
  isplitr; · iempintro
  isplitl [Hp]; · iexact Hp
  isplitl [Hh]
  · isplitl [Hh]; · iexact Hh
    iempintro
  isplitl [Ht]; · iexact Ht
  iexact HO
/-- and the second's exit is the end. -/
theorem link2 (c : Dev nD) : (reg1 m).post c ⊢ iprop(Tₙ m c ∗ ∃ W, owes (c : Thread nD τ) (0 : CellTallies nD τ sig Unit) W) := by
  show iprop(StableHlo.held (c.tc : Thread nD τ) (Pipeline.arrRefs (τ := τ) (pcfgs (F := F) 1).spec) (V₂ m c) ∗ (∃ r, prngReg c r)
    ∗ (StableHlo.held (c.tc : Thread nD τ) (Pipeline.ucRefs τ sig) (V₂ m c) ∗ emp) ∗ semVal (barCell c) 0
    ∗ ∃ Wd, owes (c : Thread nD τ) (0 : CellTallies nD τ sig Unit) Wd) ⊢ _
  rw [held_arr]
  unfold Tₙ
  iintro ⟨-, -, ⟨Hh, -⟩, Hb, HO⟩
  isplitl [Hh Hb]
  · isplitl [Hh]; · iexact Hh
    iexact Hb
  iexact HO

/-- The program as the two kernels in a row. -/
def parts : List (Pipeline.Seg (pcfgs (F := F)) adm (pdats m) () defs₀ 𝒱₀ L lv) := [.region (reg0 m), .region (reg1 m)]

/-- The program is its two kernels in turn. -/
theorem main_parts (c : Dev nD) : main (F := F) c = Pipeline.Seg.run (parts m) :=
  main_segs adm (pdats m) () 𝒱₀ L lv (reg0 m) (reg1 m) c

end Cert.KernelIdeal.Hand

end
-- ==== Proof.Launch.lean ====
/- The launch: every cell's record made, the tokens and the credit dealt to the devices. -/
module

public import proofs.«01_k».proof.Proof.Region

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

/-- Each device has its own barrier semaphore. -/
theorem barCell_inj : Function.Injective barCell := fun _ _ h => congrArg (fun g : GSem nD τ sig => g.1.1) h
/-- Each transfer of each device has its own send semaphore. -/
theorem sendCell_inj : Function.Injective fun p : Dev nD × Fin 24 => sendCell p.1 p.2 := fun _ _ h =>
  Prod.ext (congrArg (fun g : GSem nD τ sig => g.1.1) h) (sendSem_inj (SemLoc.dma.inj (congrArg Prod.snd h)))
/-- Each arrival at each device has its own receive semaphore. -/
theorem recvCell_inj : Function.Injective fun p : Dev nD × Fin 24 => recvCell p.1 p.2 := fun _ _ h =>
  Prod.ext (congrArg (fun g : GSem nD τ sig => g.1.1) h) (recvSem_inj (SemLoc.dma.inj (congrArg Prod.snd h)))

/-- No semaphore is both a send and a receive semaphore. -/
theorem send_recv_disjoint : Disjoint (Finset.univ.image fun p : Dev nD × Fin 24 => sendCell p.1 p.2)
    (Finset.univ.image fun p : Dev nD × Fin 24 => recvCell p.1 p.2) := by
  rw [Finset.disjoint_left]
  rintro g h₁ h₂
  obtain ⟨p, -, rfl⟩ := Finset.mem_image.mp h₁
  obtain ⟨q, -, h⟩ := Finset.mem_image.mp h₂
  exact send_ne_recv _ _ (congrArg Prod.snd h).symm

/-- No cell is both a barrier cell and a transfer's. -/
theorem disjoint_cells : Disjoint barCells dmaCells := by
  rw [Finset.disjoint_left]
  rintro g h₁ h₂
  obtain ⟨c, -, rfl⟩ := Finset.mem_image.mp h₁
  rcases Finset.mem_union.mp h₂ with h | h <;> obtain ⟨q, -, h⟩ := Finset.mem_image.mp h <;>
    exact dma_ne_bar _ (congrArg Prod.snd h)

/-- A family of pairs is a pair of families. -/
theorem families {Φ Ψ : Dev nD → sProp 𝕄} : (bigSep Finset.univ fun c => iprop(Φ c ∗ Ψ c)) = iprop(bigSep Finset.univ Φ ∗ bigSep Finset.univ Ψ) :=
  bigSep_sep' _ _ _

/-- Something for every barrier cell is something for every device. -/
theorem over_bar (Φ : GSem nD τ sig → sProp 𝕄) : bigSep barCells Φ = bigSep Finset.univ fun c : Dev nD => Φ (barCell c) := by
  unfold barCells; exact bigSep_image_of_injOn (barCell_inj.injOn) Φ

/-- Something for every transfer's cell is something for every device and each of its two families. -/
theorem over_dma (Φ : GSem nD τ sig → sProp 𝕄) : bigSep dmaCells Φ
    = bigSep Finset.univ fun c : Dev nD => iprop(bigSep Finset.univ (fun j : Fin 24 => Φ (sendCell c j)) ∗ bigSep Finset.univ (fun j : Fin 24 => Φ (recvCell c j))) := by
  unfold dmaCells
  rw [bigSep_union send_recv_disjoint, bigSep_image_of_injOn sendCell_inj.injOn, bigSep_image_of_injOn recvCell_inj.injOn,
    bigSep_univ_prod, bigSep_univ_prod, bigSep_sep']
  rfl

/-- The duties' tokens, indexed by the device that pays: its three signals, its arrivals, its departures. -/
def tokOf : (Dev nD × Fin 3) ⊕ ((Dev nD × Fin 24) ⊕ (Dev nD × Fin 24)) → GSem nD τ sig × ℕ × ℕ
  | .inl p => (barCell (fwd p.1 (p.2.val + 1)), 0, p.2.val + 1)
  | .inr (.inl p) => (recvCell (tgt p.1 p.2) p.2, 0, 0)
  | .inr (.inr p) => (sendCell p.1 p.2, 0, 0)

/-- Two devices that have the same device `d` ahead of them are one. -/
theorem fwd_inj (d : ℕ) {a b : Dev nD} (h : fwd a d = fwd b d) : a = b := by
  have h' : (a.val + d) % 4 = (b.val + d) % 4 := congrArg Fin.val h
  have := dev_lt a; have := dev_lt b
  exact Fin.ext (by omega)

/-- Different duties have different tokens. -/
theorem tokOf_inj : Function.Injective tokOf := by
  have arr (p q : Dev nD × Fin 24) (h : recvCell (tgt p.1 p.2) p.2 = recvCell (tgt q.1 q.2) q.2) : p = q := by
    have e : (tgt p.1 p.2, p.2) = (tgt q.1 q.2, q.2) := recvCell_inj (a₁ := (tgt p.1 p.2, p.2)) (a₂ := (tgt q.1 q.2, q.2)) h
    have e2 : p.2 = q.2 := (Prod.mk.inj e).2
    have e1 : tgt p.1 p.2 = tgt q.1 q.2 := (Prod.mk.inj e).1
    refine Prod.ext ?_ e2
    rw [← srcD_tgt p.1 p.2, e1, e2, srcD_tgt]
  have no {a b : SemLoc sig} {c d : Thread nD τ} (h : (c, a) = (d, b)) : a = b := congrArg Prod.snd h
  rintro (p | p | p) (q | q | q) h
  · have hd : p.2.val + 1 = q.2.val + 1 := congrArg (fun t : GSem nD τ sig × ℕ × ℕ => t.2.2) h
    have hc : fwd p.1 (p.2.val + 1) = fwd q.1 (q.2.val + 1) := barCell_inj (congrArg Prod.fst h)
    rw [hd] at hc
    exact congrArg Sum.inl (Prod.ext (fwd_inj _ hc) (Fin.ext (Nat.succ.inj hd)))
  · exact absurd (no (congrArg Prod.fst h)).symm (dma_ne_bar _)
  · exact absurd (no (congrArg Prod.fst h)).symm (dma_ne_bar _)
  · exact absurd (no (congrArg Prod.fst h)) (dma_ne_bar _)
  · exact congrArg (Sum.inr ∘ Sum.inl) (arr p q (congrArg Prod.fst h))
  · exact absurd (no (congrArg Prod.fst h)).symm (send_ne_recv _ _)
  · exact absurd (no (congrArg Prod.fst h)) (dma_ne_bar _)
  · exact absurd (no (congrArg Prod.fst h)) (send_ne_recv _ _)
  · exact congrArg (Sum.inr ∘ Sum.inr) (sendCell_inj (congrArg Prod.fst h))

/-- The tokens of all duties of all devices. -/
def talkToks : Finset (GSem nD τ sig × ℕ × ℕ) := Finset.univ.map ⟨tokOf, tokOf_inj⟩

/-- The tokens, dealt to the devices that pay. -/
theorem toks_deal : bigSep talkToks (fun x => (dutyTok ER x.1 x.2.1 x.2.2 : sProp 𝕄)) = bigSep Finset.univ fun c : Dev nD => Duties c := by
  have h3 (Φ : ℕ → sProp 𝕄) : bigSep ({1, 2, 3} : Finset ℕ) Φ = bigSep Finset.univ fun d : Fin 3 => Φ (d.val + 1) := by
    rw [show ({1, 2, 3} : Finset ℕ) = Finset.univ.image (fun d : Fin 3 => d.val + 1) from by decide,
      bigSep_image_of_injOn (fun a _ b _ h => Fin.ext (Nat.succ.inj h))]
  unfold talkToks Duties
  rw [bigSep_map, bigSep_univ_sum, bigSep_univ_sum, bigSep_univ_prod, bigSep_univ_prod, bigSep_univ_prod, bigSep_sep']
  refine congrArg₂ _ (bigSep_congr fun c _ => (h3 fun d => dutyTok ER (barCell (fwd c d)) 0 d).symm) ?_
  rw [bigSep_congr (s := Finset.univ) (fun (c : Dev nD) _ => bigSep_sep' Finset.univ (fun j : Fin 24 => dutyTok ER (recvCell (tgt c j) j) 0 0)
    (fun j : Fin 24 => (dutyTok ER (sendCell c j) 0 0 : sProp 𝕄))), bigSep_sep']
  rfl

/-! ## The launch credit -/

/-- What device `d` owes a barrier cell, and a receive cell. -/
theorem owed_bar (d c : Dev nD) : O₀ d (barCell c) ()
    = (if c = fwd d 3 then 1 else 0) + (if c = fwd d 2 then 1 else 0) + (if c = fwd d 1 then 1 else 0) := by
  have h0 : Ofrom d 0 (barCell c) () = 0 := by
    by_contra h
    obtain ⟨j, e⟩ := Ofrom_pos d 0 _ _ (Nat.pos_of_ne_zero h)
    exact dma_ne_bar _ (congrArg Prod.snd e).symm
  have h1 (e : Dev nD) : (tallyAt (barCell e) () 1 : CellTallies nD τ sig Unit) (barCell c) () = if c = e then 1 else 0 := by
    rw [tallyAt_apply]
    by_cases h : c = e
    · subst h; rw [if_pos ⟨rfl, rfl⟩, if_pos rfl]
    · rw [if_neg (fun h' => h (barCell_inj h'.1)), if_neg h]
  unfold O₀
  rw [Pi.add_apply, Finsupp.add_apply, Pi.add_apply, Finsupp.add_apply, Pi.add_apply, Finsupp.add_apply, h1, h1, h1, h0, Nat.zero_add]

/-- A device owes the receive semaphore of arrival `j` the whole credit if it is the sender, else nothing. -/
theorem owed_recv (d c : Dev nD) (j : Fin 24) : O₀ d (recvCell c j) () = if d = srcD c j then N else 0 := by
  have h1 (e : Dev nD) : (tallyAt (barCell e) () 1 : CellTallies nD τ sig Unit) (recvCell c j) () = 0 := by
    rw [tallyAt_ne_cell (fun h => dma_ne_bar _ (congrArg Prod.snd h))]; rfl
  have h0 : Ofrom d 0 (recvCell c j) () = if d = srcD c j then N else 0 := by
    unfold Ofrom
    rw [Finset.sum_apply, Finsupp.finset_sum_apply, Finset.sum_eq_single j]
    · rw [tallyAt_apply]
      by_cases h : d = srcD c j
      · subst h; rw [tgt_srcD, if_pos ⟨rfl, rfl⟩, if_pos rfl]
      · rw [if_neg h, if_neg]
        rintro ⟨e, -⟩
        have e' : c = tgt d j := congrArg (fun g : GSem nD τ sig => g.1.1) e
        exact h (by rw [e', srcD_tgt])
    · intro k _ hk
      rw [tallyAt_ne_cell (fun h => hk (recvSem_inj (SemLoc.dma.inj (congrArg Prod.snd h))).symm)]; rfl
    · intro h; exact absurd (Finset.mem_filter.mpr ⟨Finset.mem_univ j, Nat.zero_le j.val⟩) h
  unfold O₀
  rw [Pi.add_apply, Finsupp.add_apply, Pi.add_apply, Finsupp.add_apply, Pi.add_apply, Finsupp.add_apply, h1, h1, h1, h0]
  rfl

/-- Each barrier semaphore is signalled by three devices. -/
theorem three_signals : ∀ c : Dev nD, (∑ d : Dev nD, ((if c = fwd d 3 then 1 else 0) + (if c = fwd d 2 then 1 else 0) + (if c = fwd d 1 then 1 else 0))) = 3 := by
  decide

/-- A device may wait for three signals, -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  exact three_signals c
/-- and for each transfer that lands at it. -/
theorem launch_recv (c : Dev nD) (j : Fin 24) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j,
    Finset.sum_ite_eq' Finset.univ (srcD c j) fun _ => N, if_pos (Finset.mem_univ _)]

/-- What the devices owe a device gives it the credits it will wait for. -/
theorem creds (c : Dev nD) : (Pipeline.launchCred O₀ c : sProp 𝕄) ⊢ Creds c := by
  unfold Pipeline.launchCred Creds
  rw [bigSep_univ_at _ (SemLoc.reg barS)]
  refine BIClass.sep_mono (Entails.of_eq (by rw [← launch_bar])) ?_
  have hs : (Finset.univ.image fun j : Fin 24 => (SemLoc.dma (recvSem j) : SemLoc sig)) ⊆ Finset.univ.erase (SemLoc.reg barS) := fun x hx => by
    obtain ⟨j, -, rfl⟩ := Finset.mem_image.mp hx
    exact Finset.mem_erase.mpr ⟨dma_ne_bar _, Finset.mem_univ _⟩
  refine (bigSep_subset hs).trans ?_
  rw [bigSep_image_of_injOn (fun a _ b _ h => recvSem_inj (SemLoc.dma.inj h))]
  exact Entails.of_eq (bigSep_congr fun j _ => congrArg cred (launch_recv c j))

/-! ## The launch -/

/-- Of the semaphores that outlive the kernels each device has its barrier semaphore only, at zero. -/
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, bigSep_singleton]

/-- What the launch hands the two protocols. -/
def u₀ : UU :=
  (initOf (Pipeline.cells (Pipeline.pin (pcfgs (F := F)) adm) cellOf_inj) (Pipeline.launchToks (Pipeline.pin (pcfgs (F := F)) adm) cellOf_inj),
    (launchOf barCells dmaCells talkToks, 1))

/-- The transfers' share of it, all on device 0 until it is dealt. -/
def G (c : Dev nD) : sProp 𝕄 := if c = 0 then BI.own (ER (launchOf barCells dmaCells talkToks)) else iprop(emp)
/-- What is dealt to all devices is the whole set-up of the schedule. -/
theorem bigSep_G : bigSep Finset.univ (G (F := F)) = BI.own (ER (launchOf barCells dmaCells talkToks)) := by
  rw [bigSep_univ_at _ (0 : Dev nD), bigSep_congr (s := Finset.univ.erase 0) (Ψ := fun _ => (BI.emp : sProp 𝕄))
    fun c hc => by unfold G; rw [if_neg (Finset.ne_of_mem_erase hc)]; rfl, BI.bigSep_emp_const]
  unfold G; rw [if_pos rfl]
  exact BI.equiv_iff.mp sep_emp

/-- The set-up at launch splits into what each device is dealt. -/
theorem u₀_deal : (ownU (u₀ (F := F)) : sProp 𝕄)
    ⊢ |={Set.univ}=> iprop(BI.own (EP (initOf (Pipeline.cells (Pipeline.pin (pcfgs (F := F)) adm) cellOf_inj) (Pipeline.launchToks (Pipeline.pin (pcfgs (F := F)) adm) cellOf_inj)))
      ∗ bigSep Finset.univ (G (F := F))) := by
  rw [bigSep_G]
  unfold u₀
  iintro Hu
  ihave H := (ownU_pair _ _) $$ Hu
  icases H with ⟨HP, HX⟩
  imodintro
  isplitl [HP]; · iexact HP
  iexact HX

/-- What a device has of its own at launch. -/
def Own (c : Dev nD) : sProp 𝕄 :=
  iprop(StableHlo.held (c.tc : Thread nD τ) (Pipeline.ucRefs τ sig) (V₀ m c) ∗ owes (c : Thread nD τ) (O₀ c) ∅ ∗ Creds c ∗ ∃ r, prngReg c r)

/-- What a device has of the machine at launch. -/
theorem own_at (c : Dev nD) :
    iprop(unscopedBufs c (fun b => m ((c.tc : Thread nD τ).loc b)) ∗ unscopedSems0 c
      ∗ owes (c.tc : Thread nD τ) (O₀ c) ∅ ∗ Pipeline.launchCred O₀ c ∗ prngReg c (ρ c) ∗ G c)
    ⊢ (iprop(Own m c ∗ semVal (barCell c) 0 ∗ G c) : sProp 𝕄) := by
  rw [show (unscopedBufs c (fun b => m ((c.tc : Thread nD τ).loc b)) : sProp 𝕄) = StableHlo.held (c.tc : Thread nD τ) (Pipeline.ucRefs τ sig) (V₀ m c)
    from Pipeline.unscopedBufs_held c (V₀ m c), unscopedSems0_eq]
  unfold Own
  iintro ⟨Hh, Hus, HO, Hcr, Hp, HG⟩
  ihave Hc := (creds (F := F) c) $$ Hcr
  isplitl [Hh HO Hc Hp]
  · isplitl [Hh]; · iexact Hh
    isplitl [HO]; · iexact HO
    isplitl [Hc]; · iexact Hc
    iexists (ρ c); iexact Hp
  isplitl [Hus]; · iexact Hus
  iexact HG

/-- What is dealt to it. -/
def Dealt (c : Dev nD) : sProp 𝕄 := iprop(atPos ER (barCell c) 0 ∅ 0 ∗ Shut c ∗ Duties c)

/-- What a device is dealt and has at launch is what its run starts from. -/
theorem start_at (K : GSem nD τ sig → ℕ) (c : Dev nD) : iprop(Ctx (xsOf m) (gsOf m) K ∗ (Dealt c ∗ Own m c)) ⊢ T₀ m c := by
  unfold Dealt Own T₀ Ride Tk
  iintro ⟨#HR, ⟨Hat, Hs, Hd⟩, Hh, HO, Hc, Hp⟩
  isplitl [Hh]; · iexact Hh
  isplitl [HO]; · iexists ∅; iexact HO
  isplitr; · iempintro
  isplitr [Hp]
  · iexists K
    isplitr; · iexact HR
    isplitl [Hs]; · iexact Hs
    isplitl [Hd]; · iexact Hd
    isplitl [Hat]; · iexact Hat
    iexact Hc
  iexact Hp

/-- THE LAUNCH: the barrier cells begun, the transfers' cells made for the second kernel to open, everything dealt. -/
theorem init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts L lv)
      ⊢ (|={Set.univ}=> bigSep Finset.univ (T₀ m) : sProp 𝕄) := by
  iintro ⟨H, -⟩
  have hall : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
      ⊢ (bigSep Finset.univ fun c : Dev nD => iprop(Own m c ∗ semVal (barCell c) 0 ∗ G c) : sProp 𝕄) := bigSep_mono fun c _ => own_at m ρ c
  ihave H' := hall $$ H
  ihave H2 := (Entails.of_eq families) $$ H'; icases H2 with ⟨HB, H3⟩
  ihave H4 := (Entails.of_eq families) $$ H3; icases H4 with ⟨Hv, HG⟩
  ihave Hu := (Entails.of_eq (bigSep_G (F := F))) $$ HG
  ihave Hv := (Entails.of_eq (over_bar (F := F) fun g => semVal g 0).symm) $$ Hv
  imod (Rounds.fund_launch ER (talkRd (xsOf m) (gsOf m)) disjoint_cells (fun g _ h => h) talkToks) $$ [Hv Hu] with ⟨%K, -, #Hinv, #Hr, Hat, Hopen, Htok⟩
  · isplitl [Hv]; · iexact Hv
    iexact Hu
  imodintro
  iapply (bigSep_with_persistent (R := Ctx (xsOf m) (gsOf m) K) (Φ := fun c => iprop(Dealt c ∗ Own m c)) fun c _ => start_at m K c)
  isplitr
  · unfold Ctx
    isplitr; · iexact Hinv
    iexact Hr
  iapply (Entails.of_eq families.symm)
  isplitr [HB]
  · unfold Dealt
    iapply (Entails.of_eq families.symm)
    isplitl [Hat]; · iapply (Entails.of_eq (over_bar (F := F) fun g => atPos ER g 0 ∅ 0)) $$ Hat
    iapply (Entails.of_eq families.symm)
    isplitl [Hopen]
    · unfold Shut
      iapply (Entails.of_eq (over_dma (F := F) fun g => openTok ER g)) $$ Hopen
    iapply (Entails.of_eq (toks_deal (F := F))) $$ Htok
  iexact HB

end Cert.KernelIdeal.Hand

end
-- ==== Proof.Run.lean ====
/- The whole run. -/
module

public import proofs.«01_k».proof.Proof.Launch

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The barrier's counter is the only one that outlives a kernel. -/
theorem unscoped_only : ∀ sm : SemLoc sig, sm.isScoped .tc = false → sm = .reg barS := by decide

/-- What a device's memory holds at the end. -/
def AtEnd (c : Dev nD) (s : MemSt nD τ sig (Elt F)) : Prop :=
  s.mem (c.tc.loc main_v2_0) = outOf m c ∧ s.mem (c.tc.loc main_arg0) = m (c.tc.loc main_arg0)
    ∧ s.mem (c.tc.loc main_arg1) = m (c.tc.loc main_arg1)

/-- What a device ends with says what its arrays hold. -/
theorem read_end (c : Dev nD) (s' : Phys nD τ sig (Elt F)) :
    iprop(Tₙ m c ∗ SI s') ⊢ (|={Set.univ}=> iprop(⌜AtEnd m c s'.mem ∧ s'.mem.sem (barCell c) = 0⌝ ∗ SI s') : sProp 𝕄) := by
  unfold Tₙ
  rw [bufs_eq, V₂_v2_0, V₂_of m c main_arg0 (by decide) (by decide), V₁_arg0, V₂_of m c main_arg1 (by decide) (by decide), V₁_arg1]
  unfold buf
  iintro ⟨⟨⟨H0, H1, -, Hr, -⟩, Hb⟩, HSI⟩
  icombine HSI H0 gives %h0
  icombine HSI H1 gives %h1
  icombine HSI Hr gives %hr
  icombine HSI Hb gives %hb
  imodintro
  isplitr
  · ipureintro
    exact ⟨⟨Buf.eq_of_forall_mem_univ hr, Buf.eq_of_forall_mem_univ h0, Buf.eq_of_forall_mem_univ h1⟩, by simpa using hb⟩
  iexact HSI

set_option backward.isDefEq.respectTransparency.types false in
/-- THE RUN: from any memory with zero counters every fair execution of the four devices ends, each device's result holding the
    sum over its 32 tiles, its operands as they were, and every counter at zero. -/
theorem run_main : θ_run defs (onTc (τ := τ) (main (F := F))) ⟨m, fun _ => 0, ρ⟩
    (fun r => (∀ c : Dev nD, AtEnd m c r.2) ∧ r.2.sem = fun _ => 0) :=
  Pipeline.θ_run_regions_kit_sems (pcfgs (F := F)) adm (pdats m) () cellOf_inj EP defs₀ 𝒱₀ L lv m ρ main (parts m)
    (fun c Q => by rw [main_parts m c])
    (by simp only [parts, Pipeline.Seg.pipes_region, Pipeline.Seg.pipes_nil]; decide)
    (O₀ := O₀) (hL := L_of_ne) (G := G) (u₀ := u₀) (hu₀ := u₀_deal)
    (T₀ := T₀ m) (Tₙ := Tₙ m)
    (hch := ⟨link0 m, link1 m, link2 m⟩)
    (hinit := init m ρ)
    (QY := fun c s => AtEnd m c s ∧ s.sem (barCell c) = 0)
    (hfin := read_end m)
    (hQ := fun s h hs => ⟨fun c => (h c).1, sem_eq_zero hs fun c sm hsm => by
        obtain rfl := unscoped_only sm hsm
        exact (h c).2⟩)

end Cert.KernelIdeal.Hand

end
-- ==== Proof.Value.lean ====
/- The values, over the extended reals: the accumulator sums, tile by tile in the order the tiles arrive, the products
   of a row of the first operand with a column of the second. All 32 tiles give the whole product, and what a device
   returns is its block of rows of it. -/
module

public import proofs.«01_k».proof.Proof.Run
public import proofs.«01_k».proof.ReferenceIdeal
public import proofs.«01_k».proof.Proof.Gen.ReferenceIdeal
public import Idealize.ShloMosaic.Lib.Layout
public import Idealize.ShloMosaic.Lib.MatmulPlain
public import Idealize.ShloMosaic.Lib.Pointwise.IndexBridge
public import Idealize.ShloMosaic.Lib.StackMember

@[expose] public section

set_option maxRecDepth 16384

noncomputable section

namespace Cert.KernelIdeal.Hand

open Cert.KernelIdeal Cert.KernelIdeal.Gen
open Idealize.ShloMosaic Idealize.ShloMosaic.TcCoe

variable (xs : Dev nD → main_v1.ty.Contents (Elt Ideal)) (ws : Dev nD → main_arg1.ty.Contents (Elt Ideal))

/-- An entry of the gathered rows of device `c`, as an extended real. -/
def aEnt (c : Dev nD) (r : Fin 2048) (k : Fin 8192) : EReal := Xa xs c (ix2 (n0 := 2048) (n1 := 8192) r k)
/-- An entry of the second operand of device `c`, as an extended real. -/
def wEnt (c : Dev nD) (k : Fin 8192) (j : Fin 4096) : EReal := ws c (ix2 (n0 := 8192) (n1 := 4096) k j)
/-- One product of the sum that is entry `(r, j)` of the result of device `c`. -/
def term (c : Dev nD) (r : Fin 2048) (j : Fin 4096) (k : Fin 8192) : EReal := aEnt xs c r k * wEnt ws c k j

/-- Coordinate `t` of tile `q`, counted along the whole contracted axis. -/
def at256 (q : ℕ) (t : Fin 256) : Fin 8192 := ⟨(256 * q + t.val) % 8192, Nat.mod_lt _ (by decide)⟩

/-- The kernel's product is the plain one of a 2048-by-256 with a 256-by-4096 matrix. -/
theorem dot_tile : dot_S2048x256_S256x4096_S2048x4096_1_0_0_1_n_n = DotDims.plain 2048 256 4096 := rfl

/-- One tile adds its 256 products to each entry of the accumulator. -/
theorem add_tile (c : Dev nD) (q : ℕ) (A : FVec Ideal S2048x4096 .f32) (r : Fin 2048) (j : Fin 4096) :
    k1_pay6 (k1_pay3 A (aVec xs c q) (wVec (ws c) q)) (ix2 (n0 := 2048) (n1 := 4096) r j)
      = (A (ix2 (n0 := 2048) (n1 := 4096) r j) : EReal) + ∑ t : Fin 256, term xs ws c r j (at256 q t) := by
  unfold k1_pay6 k1_pay3
  dsimp only
  rw [shapeCast_self, dot_tile]
  show (A (ix2 (n0 := 2048) (n1 := 4096) r j) : EReal) + FloatOps.matmul (F := Ideal) (DotDims.plain 2048 256 4096) none _ _ _ (ix2 r j) = _
  rw [ix2_eq_valueIdx r j, Ideal.matmul_plain_apply]
  show (A (ValueIdx.ix2 r j) : EReal) + (Ideal.ofBits .f32 0x00000000#32 + _) = _
  rw [Ideal.ofBits_zero_f32, zero_add]
  refine congrArg _ (Finset.sum_congr rfl fun t _ => congrArg₂ (· * ·) ?_ ?_)
  · exact shapeCast_dropUnit_apply (n := 2) ![2048, 256] (aVec xs c q) _ (ix2 r t)
  · exact shapeCast_dropUnit_apply (n := 2) ![256, 4096] (wVec (ws c) q) _ (ix2 t j)

/-- The accumulator starts at zero. -/
theorem acc_zero (i : S2048x4096.Idx) : (k1_pay4 (F := Ideal) i : EReal) = 0 := by
  unfold k1_pay4
  rw [shapeCast_self]
  exact Ideal.ofBits_zero_f32

/-- After `n` tiles each entry is the sum of the products of those tiles. -/
theorem acc_sum (c : Dev nD) (r : Fin 2048) (j : Fin 4096) (n : ℕ) :
    (accAt xs ws c n (ix2 (n0 := 2048) (n1 := 4096) r j) : EReal)
      = ∑ i ∈ Finset.range n, ∑ t : Fin 256, term xs ws c r j (at256 (qn c i) t) := by
  induction n with
  | zero => exact acc_zero _
  | succ n ih => rw [Finset.sum_range_succ, ← ih]; exact add_tile xs ws c (qn c n) _ r j

/-- The order of the tiles on a device, as a map of the 32 tiles. -/
def order (c : Dev nD) (i : Fin 32) : Fin 32 := ⟨qn c i.val, qn_lt c i.isLt⟩
/-- Every device takes each tile once. -/
theorem order_bij : ∀ c : Dev nD, Function.Bijective (order c) := by decide +kernel

/-- The 32 tiles of 256 coordinates are the whole contracted axis. -/
theorem sum_tiles (c : Dev nD) (f : Fin 8192 → EReal) :
    ∑ i ∈ Finset.range 32, ∑ t : Fin 256, f (at256 (qn c i) t) = ∑ k : Fin 8192, f k := by
  rw [Finset.sum_range (n := 32)]
  show ∑ i : Fin 32, ∑ t : Fin 256, f (at256 (order c i).val t) = _
  rw [(order_bij c).sum_comp (fun q : Fin 32 => ∑ t : Fin 256, f (at256 q.val t)),
    ← Fintype.sum_prod_type' (f := fun (q : Fin 32) (t : Fin 256) => f (at256 q.val t))]
  refine Fintype.sum_equiv (finProdFinEquiv (m := 32) (n := 256)) _ (fun k : Fin (32 * 256) => f k) fun p => ?_
  refine congrArg f (Fin.ext ?_)
  have hq := p.1.isLt
  have ht := p.2.isLt
  show (256 * p.1.val + p.2.val) % 8192 = p.2.val + 256 * p.1.val
  omega

/-- After all 32 tiles each entry is the whole product of a row with a column. -/
theorem acc_all (c : Dev nD) (r : Fin 2048) (j : Fin 4096) :
    (accAt xs ws c 32 (ix2 (n0 := 2048) (n1 := 4096) r j) : EReal) = ∑ k : Fin 8192, term xs ws c r j k :=
  (acc_sum xs ws c r j 32).trans (sum_tiles c _)

/-! ## Against the product of the whole arrays -/

/-- The first operand whole, cut by columns over the devices: the gathered rows of device `c` are its rows
    `2048 c` to `2048 c + 2047`. -/
theorem gathered (X : Cert.ReferenceIdeal.S8192x8192.Idx → EReal) (m : (ℓ : Loc nD τ sig) → Buf (Elt Ideal) ℓ)
    (hX : ∀ d : Dev nD, m (d.tc.loc main_arg0) = Layout.block ⟨2, ![8192, 2048]⟩ ⟨2, ![8192, 8192]⟩ 1 4 d X)
    (c : Dev nD) (r : Fin 2048) (k : Fin 8192) (R : Fin 8192) (hR : R.val = 2048 * c.val + r.val) :
    (Xa (xsOf m) c (ix2 (n0 := 2048) (n1 := 8192) r k) : EReal) = X (ix2 R k) := by
  show (m (Dev.tc (⟨k.val / 2048, _⟩ : Dev nD) |>.loc main_arg0) (ix2 (n0 := 8192) (n1 := 2048) ⟨2048 * c.val + r.val, _⟩ ⟨k.val % 2048, _⟩) : EReal) = _
  rw [hX]
  refine congrArg X ?_
  funext a
  apply Fin.ext
  match a with
  | ⟨0, _⟩ => exact hR.symm
  | ⟨1, _⟩ => show k.val / 2048 * 2048 + k.val % 2048 = k.val; omega

/-- The reference's product is the plain one. -/
theorem dot_whole : Cert.ReferenceIdeal.dot_S8192x8192_S8192x4096_S8192x4096_1_0_0_1_n_n = DotDims.plain 8192 8192 4096 := rfl

/-- What device `c` returns is its block of rows of the product of the whole arrays. -/
theorem out_eq (X : FVec Ideal Cert.ReferenceIdeal.S8192x8192 .f32) (W : FVec Ideal S8192x4096 .f32) (m : (ℓ : Loc nD τ sig) → Buf (Elt Ideal) ℓ)
    (hX : ∀ d : Dev nD, m (d.tc.loc main_arg0) = Layout.block ⟨2, ![8192, 2048]⟩ ⟨2, ![8192, 8192]⟩ 1 4 d X)
    (hW : ∀ d : Dev nD, m (d.tc.loc main_arg1) = W) (c : Dev nD) :
    outOf m c = Layout.block ⟨2, ![2048, 4096]⟩ ⟨2, ![8192, 4096]⟩ 0 4 c
      (Host.dotGeneral Cert.ReferenceIdeal.dot_S8192x8192_S8192x4096_S8192x4096_1_0_0_1_n_n none X W : FVec Ideal S8192x4096 .f32) := by
  funext i
  obtain ⟨r, j, rfl⟩ : ∃ (r : Fin 2048) (j : Fin 4096), i = ix2 r j := ⟨i 0, i 1, eq_ix2 i⟩
  have hc := dev_lt c
  have hr := r.isLt
  have hb : c.val * 2048 + r.val < 8192 := by omega
  rw [Layout.block_apply, dot_whole]
  have hi : (Layout.Tiles.idx (S := ⟨2, ![2048, 4096]⟩) (T := ⟨2, ![8192, 4096]⟩) (a := 0) (k := 4) (by decide) c (ix2 r j))
      = ix2 (n0 := 8192) (n1 := 4096) ⟨c.val * 2048 + r.val, hb⟩ j := by
    funext a
    apply Fin.ext
    match a with
    | ⟨0, _⟩ => rfl
    | ⟨1, _⟩ => rfl
  refine (acc_all (xsOf m) (wsOf m) c r j).trans (.trans ?_ (congrArg (Host.dotGeneral (F := Ideal) (DotDims.plain 8192 8192 4096) none X W) hi).symm)
  refine .trans ?_ (StackMember.dotGeneral_plain_apply none X W ⟨c.val * 2048 + r.val, hb⟩ j).symm
  refine Finset.sum_congr rfl fun k _ => congrArg₂ (· * ·) ?_ ?_
  · exact gathered X m hX c r k _ (by show c.val * 2048 + r.val = _; omega)
  · show wsOf m c _ = _
    unfold wsOf
    rw [hW, ix2_eq_valueIdx]

end Cert.KernelIdeal.Hand

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Value

@[expose] public section

set_option maxRecDepth 16384

noncomputable section

namespace Cert.Proof

open Idealize.ShloMosaic Idealize.SL.Sem Cert.KernelIdeal.Hand

/-- The run, of the arguments only. -/
theorem run_args {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).2, h.2⟩) (run_main m ρ)

/-- The kernel's table of bodies is the one that was run: the two programs have the same text. -/
theorem bodies_eq {F : FTy → Type} [FloatOps F] : Cert.Kernel.defs₀ (F := F) = Cert.KernelIdeal.defs₀ := by
  unfold Cert.Kernel.defs₀ Cert.KernelIdeal.defs₀
  refine congrArg Defs.onTc ?_
  funext ℓ a
  match ℓ, a with
  | 0, (t, s) => rfl
  | 1, (t, s) => rfl
/-- With the stagings around them, the two programs' tables agree too. -/
theorem defs_eq {F : FTy → Type} [FloatOps F] : Cert.Kernel.defs (F := F) = Cert.KernelIdeal.defs :=
  congrArg (Pipeline.defs Cert.KernelIdeal.pcfgs) bodies_eq

/-- The kernel, at the machine's floats: the same text, so the same run. -/
theorem frame_kernel : Cert.quiescent_Kernel := fun m ρ _ => by
  rw [defs_eq]
  exact run_args (F := Bits) m ρ

/-- The kernel, at the extended reals. -/
theorem frame_ideal : Cert.quiescent_KernelIdeal := fun m ρ _ => run_args (F := Ideal) m ρ

/-- The reference's one operation writes its result and no argument; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The common value is the reference's product of the whole arrays. Each device of the kernel ends with the sum its
    accumulator holds after the last tile, which is its block of rows of that product. -/
theorem algebraic : Cert.algebraic_KernelIdeal_ReferenceIdeal := by
  intro m ρ m' ρ' _ h
  refine ⟨Host.dotGeneral (F := Ideal) (φ₁ := .f32) (φ₂ := .f32) Cert.ReferenceIdeal.dot_S8192x8192_S8192x4096_S8192x4096_1_0_0_1_n_n none
    (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · refine (θ_run Cert.KernelIdeal.defs _ _).mono (fun r hr c => ⟨?_, (hr.1 c).2.1, (hr.1 c).2.2⟩) (run_main (F := Ideal) m ρ)
    exact (hr.1 c).1.trans (out_eq _ _ m (fun d => (h d).1) (fun d => (h d).2) c)
  · exact (θ_run Cert.ReferenceIdeal.defs _ _).mono (fun r hr => hr 0) (Cert.ReferenceIdeal.Value.run (F := Ideal) m' ρ')

/-- Every claim holds. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
